-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_without_ties_pre_finite [hKernelIdeal : Cert.KernelIdeal.Facts] [hReferenceIdeal : Cert.ReferenceIdeal.Facts] [hPre_finite : Cert.Pre_finite.Facts] [hOn_without_ties : Cert.On_without_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![5000, 15000]⟩ : Shape).Idx, (Cert.On_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨1, ![5000]⟩ : Shape).Idx, (Cert.On_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v0_1) i = v1 c i)
          ∧ (∀ i : (⟨0, ![]⟩ : Shape).Idx, (Cert.On_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v0_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![5000, 15000]⟩ : Shape).Idx, (Cert.On_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v19) i = v0 c i)
          ∧ (∀ i : (⟨1, ![5000]⟩ : Shape).Idx, (Cert.On_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v42) i = v1 c i)
          ∧ (∀ i : (⟨0, ![]⟩ : Shape).Idx, (Cert.On_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v45) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_untied : Cert.Pre_finite_untied.Facts) (hPre_finite : Cert.Pre_finite.Facts) (hOn_without_ties : Cert.On_without_ties.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite_untied (hReferenceIdeal := hReferenceIdeal) (hPre_finite_untied := hPre_finite_untied)
    ∧ quiescent_ReferenceIdeal_pre_finite (hReferenceIdeal := hReferenceIdeal) (hPre_finite := hPre_finite)
    ∧ preserves_Kernel_KernelIdeal
    ∧ algebraic_KernelIdeal_ReferenceIdeal_pre_finite_untied (hKernelIdeal := hKernelIdeal) (hReferenceIdeal := hReferenceIdeal) (hPre_finite_untied := hPre_finite_untied)
    ∧ algebraic_KernelIdeal_ReferenceIdeal_on_without_ties_pre_finite (hKernelIdeal := hKernelIdeal) (hReferenceIdeal := hReferenceIdeal) (hPre_finite := hPre_finite) (hOn_without_ties := hOn_without_ties)
-- ==== On_without_ties.lean ====
abbrev S1 : Shape := ⟨1, ![1]⟩
abbrev S15000x64 : Shape := ⟨2, ![15000, 64]⟩
abbrev S_ : Shape := ⟨0, ![]⟩
abbrev S5000x15000 : Shape := ⟨2, ![5000, 15000]⟩
abbrev S5000x64 : Shape := ⟨2, ![5000, 64]⟩
abbrev S5000 : Shape := ⟨1, ![5000]⟩
abbrev S5000x1 : Shape := ⟨2, ![5000, 1]⟩
abbrev S15000 : Shape := ⟨1, ![15000]⟩
abbrev S1x15000 : Shape := ⟨2, ![1, 15000]⟩
abbrev S64x15000 : Shape := ⟨2, ![64, 15000]⟩
abbrev S5000x2 : Shape := ⟨2, ![5000, 2]⟩

class Facts : Prop where
  bcast_S_S5000x15000 : S_.BroadcastsInDim S5000x15000 (![] : Fin 0 → Fin S5000x15000.rank)
  slicesBy_S15000x64_S5000x64_0s3_0s1 : S15000x64.SlicesBy (![0, 0] : Fin 2 → Nat) ![3, 1] S5000x64
  reducesTo_S5000x64_S5000_d1 : S5000x64.ReducesTo [1] S5000
  h_S_ : 0 < S_.numel
  bcast_S5000_S5000x1_0 : S5000.BroadcastsInDim S5000x1 (![0] : Fin 1 → Fin S5000x1.rank)
  reducesTo_S15000x64_S15000_d1 : S15000x64.ReducesTo [1] S15000
  bcast_S15000_S1x15000_1 : S15000.BroadcastsInDim S1x15000 (![1] : Fin 1 → Fin S1x15000.rank)
  bcast_S5000x1_S5000x15000_0_1 : S5000x1.BroadcastsInDim S5000x15000 (![0, 1] : Fin 2 → Fin S5000x15000.rank)
  bcast_S1x15000_S5000x15000_0_1 : S1x15000.BroadcastsInDim S5000x15000 (![0, 1] : Fin 2 → Fin S5000x15000.rank)
  transposes_S15000x64_S64x15000_1_0 : S15000x64.Transposes [1, 0] S64x15000
  bcast_S_S5000 : S_.BroadcastsInDim S5000 (![] : Fin 0 → Fin S5000.rank)
  concatenates_S5000x1_S5000x1_S5000x2_d1 : Shape.Concatenates [S5000x1, S5000x1] S5000x2 1
  reducesTo_S5000x15000_S5000_d1 : S5000x15000.ReducesTo [1] S5000
  reducesTo_S5000_S_d0 : S5000.ReducesTo [0] S_
  dot_S5000x64_S64x15000_S5000x15000_1_0_0_1_n_n_wf : DotDims.WF S5000x64 S64x15000 S5000x15000 [1] [0] [0] [1] [] []
  gather_S5000x15000_S5000x2_S5000_n_01_n_n_01_1_11_wf : GatherDims.WF S5000x15000 S5000x2 S5000 [] [0, 1] [] [0, 1] [] 1 ![1, 1]

variable [Facts]

def dot_S5000x64_S64x15000_S5000x15000_1_0_0_1_n_n : DotDims S5000x64 S64x15000 S5000x15000 where
  lhsContracting := [1]
  rhsContracting := [0]
  lhsNonContracting := [0]
  rhsNonContracting := [1]
  lhsBatch := []
  rhsBatch := []
  wf := dot_S5000x64_S64x15000_S5000x15000_1_0_0_1_n_n_wf
def gather_S5000x15000_S5000x2_S5000_n_01_n_n_01_1_11 : GatherDims S5000x15000 S5000x2 S5000 where
  offsetDims := []
  collapsedSliceDims := [0, 1]
  operandBatchingDims := []
  startIndicesBatchingDims := []
  startIndexMap := [0, 1]
  indexVectorDim := 1
  sliceSizes := ![1, 1]
  wf := gather_S5000x15000_S5000x2_S5000_n_01_n_n_01_1_11_wf
def fn_part5 {F : FTy → Type} [FloatOps F] (main_v0 : IVec S5000x15000 1) (main_v55 : IVec S5000 1) (main_v75 : FVec F S5000x15000 .f32) (main_v76 : IVec S5000 32) (main_v93 : IVec S5000x2 32) : IVec S5000x15000 1 × IVec S5000 1 × IVec S_ 1 :=
  let main_v94 : FVec F S5000 .f32 := (fun x i => Host.gather gather_S5000x15000_S5000x2_S5000_n_01_n_n_01_1_11 x i) main_v75 main_v93
  let main_v95 : IVec S15000 32 := iotaInDim S15000 32 0
  let main_v96 : IVec S1x15000 32 := broadcastInDim S1x15000 ![1] bcast_S15000_S1x15000_1 main_v95
  let main_c_24 : IVec S_ 32 := constantI S_ 32 3#32
  let main_v97 : IVec S5000 32 := broadcastInDim S5000 ![] bcast_S_S5000 main_c_24
  let main_v98 : IVec S5000 32 := muli main_v76 main_v97
  let main_c_25 : IVec S_ 32 := constantI S_ 32 1#32
  let main_v99 : IVec S5000 32 := broadcastInDim S5000 ![] bcast_S_S5000 main_c_25
  let main_v100 : IVec S5000 32 := addi main_v98 main_v99
  let main_v101 : IVec S5000x1 32 := broadcastInDim S5000x1 ![0] bcast_S5000_S5000x1_0 main_v100
  let main_v102 : IVec S5000x15000 32 := broadcastInDim S5000x15000 ![0, 1] bcast_S1x15000_S5000x15000_0_1 main_v96
  let main_v103 : IVec S5000x15000 32 := broadcastInDim S5000x15000 ![0, 1] bcast_S5000x1_S5000x15000_0_1 main_v101
  let main_v104 : IVec S5000x15000 1 := cmpi .slt main_v102 main_v103
  let main_v105 : FVec F S5000x1 .f32 := broadcastInDim S5000x1 ![0] bcast_S5000_S5000x1_0 main_v94
  let main_v106 : FVec F S5000x15000 .f32 := broadcastInDim S5000x15000 ![0, 1] bcast_S5000x1_S5000x15000_0_1 main_v105
  let main_v107 : IVec S5000x15000 1 := cmpf .oeq main_v75 main_v106
  let main_v108 : IVec S5000x15000 1 := andi main_v107 main_v104
  let main_v109 : IVec S5000x15000 1 := noti main_v108
  let main_c_26 : IVec S_ 1 := constantI S_ 1 1#1
  let main_v110 : IVec S5000 1 := (fun x v => Host.reduce IntOp.andi x v reducesTo_S5000x15000_S5000_d1 h_S_) main_v109 main_c_26
  let main_c_27 : IVec S_ 1 := constantI S_ 1 1#1
  let main_v111 : IVec S_ 1 := (fun x v => Host.reduce IntOp.andi x v reducesTo_S5000_S_d0 h_S_) main_v110 main_c_27
  (main_v0, main_v55, main_v111)

def fn_part4 {F : FTy → Type} [FloatOps F] (main_v0 : IVec S5000x15000 1) (main_v55 : IVec S5000 1) (main_v75 : FVec F S5000x15000 .f32) : IVec S5000x15000 1 × IVec S5000 1 × IVec S_ 1 :=
  let main_v76 : IVec S5000 32 := iotaInDim S5000 32 0
  let main_c_18 : IVec S_ 32 := constantI S_ 32 3#32
  let main_v77 : IVec S5000 32 := broadcastInDim S5000 ![] bcast_S_S5000 main_c_18
  let main_v78 : IVec S5000 32 := muli main_v76 main_v77
  let main_c_19 : IVec S_ 32 := constantI S_ 32 1#32
  let main_v79 : IVec S5000 32 := broadcastInDim S5000 ![] bcast_S_S5000 main_c_19
  let main_v80 : IVec S5000 32 := addi main_v78 main_v79
  let main_c_20 : IVec S_ 32 := constantI S_ 32 0#32
  let main_v81 : IVec S5000 32 := broadcastInDim S5000 ![] bcast_S_S5000 main_c_20
  let main_v82 : IVec S5000 1 := cmpi .slt main_v76 main_v81
  let main_c_21 : IVec S_ 32 := constantI S_ 32 5000#32
  let main_v83 : IVec S5000 32 := broadcastInDim S5000 ![] bcast_S_S5000 main_c_21
  let main_v84 : IVec S5000 32 := addi main_v76 main_v83
  let main_v85 : IVec S5000 32 := select main_v82 main_v84 main_v76
  let main_c_22 : IVec S_ 32 := constantI S_ 32 0#32
  let main_v86 : IVec S5000 32 := broadcastInDim S5000 ![] bcast_S_S5000 main_c_22
  let main_v87 : IVec S5000 1 := cmpi .slt main_v80 main_v86
  let main_c_23 : IVec S_ 32 := constantI S_ 32 15000#32
  let main_v88 : IVec S5000 32 := broadcastInDim S5000 ![] bcast_S_S5000 main_c_23
  let main_v89 : IVec S5000 32 := addi main_v80 main_v88
  let main_v90 : IVec S5000 32 := select main_v87 main_v89 main_v80
  let main_v91 : IVec S5000x1 32 := broadcastInDim S5000x1 ![0] bcast_S5000_S5000x1_0 main_v85
  let main_v92 : IVec S5000x1 32 := broadcastInDim S5000x1 ![0] bcast_S5000_S5000x1_0 main_v90
  let main_v93 : IVec S5000x2 32 := (fun a b => concatenate S5000x2 1 [⟨S5000x1, a⟩, ⟨S5000x1, b⟩] concatenates_S5000x1_S5000x1_S5000x2_d1) main_v91 main_v92
  fn_part5 (F := F) main_v0 main_v55 main_v75 main_v76 main_v93

def fn_part3 {F : FTy → Type} [FloatOps F] (main_arg1 : FVec F S15000x64 .f32) (main_v0 : IVec S5000x15000 1) (main_v55 : IVec S5000 1) (main_v56 : FVec F S5000x64 .f32) : IVec S5000x15000 1 × IVec S5000 1 × IVec S_ 1 :=
  let main_v57 : FVec F S5000x64 .f32 := mulf main_v56 main_v56
  let main_cst_13 : FVec F S_ .f32 := constant S_ .f32 0x00000000#32
  let main_v58 : FVec F S5000 .f32 := (fun x v => Host.reduceAdd x v reducesTo_S5000x64_S5000_d1 h_S_) main_v57 main_cst_13
  let main_v59 : FVec F S5000x1 .f32 := broadcastInDim S5000x1 ![0] bcast_S5000_S5000x1_0 main_v58
  let main_v60 : FVec F S15000x64 .f32 := mulf main_arg1 main_arg1
  let main_cst_14 : FVec F S_ .f32 := constant S_ .f32 0x00000000#32
  let main_v61 : FVec F S15000 .f32 := (fun x v => Host.reduceAdd x v reducesTo_S15000x64_S15000_d1 h_S_) main_v60 main_cst_14
  let main_v62 : FVec F S1x15000 .f32 := broadcastInDim S1x15000 ![1] bcast_S15000_S1x15000_1 main_v61
  let main_v63 : FVec F S5000x15000 .f32 := broadcastInDim S5000x15000 ![0, 1] bcast_S5000x1_S5000x15000_0_1 main_v59
  let main_v64 : FVec F S5000x15000 .f32 := broadcastInDim S5000x15000 ![0, 1] bcast_S1x15000_S5000x15000_0_1 main_v62
  let main_v65 : FVec F S5000x15000 .f32 := addf main_v63 main_v64
  let main_v66 : FVec F S64x15000 .f32 := (transpose S64x15000 [1, 0] · transposes_S15000x64_S64x15000_1_0) main_arg1
  let main_v67 : FVec F S5000x15000 .f32 := (fun l r => Host.dotGeneral dot_S5000x64_S64x15000_S5000x15000_1_0_0_1_n_n none l r) main_v56 main_v66
  let main_cst_15 : FVec F S_ .f32 := constant S_ .f32 0x40000000#32
  let main_v68 : FVec F S5000x15000 .f32 := broadcastInDim S5000x15000 ![] bcast_S_S5000x15000 main_cst_15
  let main_v69 : FVec F S5000x15000 .f32 := mulf main_v68 main_v67
  let main_v70 : FVec F S5000x15000 .f32 := subf main_v65 main_v69
  let main_cst_16 : FVec F S_ .f32 := constant S_ .f32 0x00000000#32
  let main_v71 : FVec F S5000x15000 .f32 := broadcastInDim S5000x15000 ![] bcast_S_S5000x15000 main_cst_16
  let main_v72 : FVec F S5000x15000 .f32 := maximumf main_v70 main_v71
  let main_cst_17 : FVec F S_ .f32 := constant S_ .f32 0x2B8CBCCC#32
  let main_v73 : FVec F S5000x15000 .f32 := broadcastInDim S5000x15000 ![] bcast_S_S5000x15000 main_cst_17
  let main_v74 : FVec F S5000x15000 .f32 := maximumf main_v72 main_v73
  let main_v75 : FVec F S5000x15000 .f32 := Host.sqrt main_v74
  fn_part4 (F := F) main_v0 main_v55 main_v75

def fn_part2 {F : FTy → Type} [FloatOps F] (main_arg1 : FVec F S15000x64 .f32) (main_v0 : IVec S5000x15000 1) (main_v20 : FVec F S5000x15000 .f32) (main_v21 : IVec S5000 32) (main_v30 : IVec S5000 32) (main_v35 : IVec S5000 32) : IVec S5000x15000 1 × IVec S5000 1 × IVec S_ 1 :=
  let main_v36 : IVec S5000x1 32 := broadcastInDim S5000x1 ![0] bcast_S5000_S5000x1_0 main_v30
  let main_v37 : IVec S5000x1 32 := broadcastInDim S5000x1 ![0] bcast_S5000_S5000x1_0 main_v35
  let main_v38 : IVec S5000x2 32 := (fun a b => concatenate S5000x2 1 [⟨S5000x1, a⟩, ⟨S5000x1, b⟩] concatenates_S5000x1_S5000x1_S5000x2_d1) main_v36 main_v37
  let main_v39 : FVec F S5000 .f32 := (fun x i => Host.gather gather_S5000x15000_S5000x2_S5000_n_01_n_n_01_1_11 x i) main_v20 main_v38
  let main_v40 : IVec S15000 32 := iotaInDim S15000 32 0
  let main_v41 : IVec S1x15000 32 := broadcastInDim S1x15000 ![1] bcast_S15000_S1x15000_1 main_v40
  let main_c_10 : IVec S_ 32 := constantI S_ 32 3#32
  let main_v42 : IVec S5000 32 := broadcastInDim S5000 ![] bcast_S_S5000 main_c_10
  let main_v43 : IVec S5000 32 := muli main_v21 main_v42
  let main_c_11 : IVec S_ 32 := constantI S_ 32 1#32
  let main_v44 : IVec S5000 32 := broadcastInDim S5000 ![] bcast_S_S5000 main_c_11
  let main_v45 : IVec S5000 32 := addi main_v43 main_v44
  let main_v46 : IVec S5000x1 32 := broadcastInDim S5000x1 ![0] bcast_S5000_S5000x1_0 main_v45
  let main_v47 : IVec S5000x15000 32 := broadcastInDim S5000x15000 ![0, 1] bcast_S1x15000_S5000x15000_0_1 main_v41
  let main_v48 : IVec S5000x15000 32 := broadcastInDim S5000x15000 ![0, 1] bcast_S5000x1_S5000x15000_0_1 main_v46
  let main_v49 : IVec S5000x15000 1 := cmpi .slt main_v47 main_v48
  let main_v50 : FVec F S5000x1 .f32 := broadcastInDim S5000x1 ![0] bcast_S5000_S5000x1_0 main_v39
  let main_v51 : FVec F S5000x15000 .f32 := broadcastInDim S5000x15000 ![0, 1] bcast_S5000x1_S5000x15000_0_1 main_v50
  let main_v52 : IVec S5000x15000 1 := cmpf .oeq main_v20 main_v51
  let main_v53 : IVec S5000x15000 1 := andi main_v52 main_v49
  let main_v54 : IVec S5000x15000 1 := noti main_v53
  let main_c_12 : IVec S_ 1 := constantI S_ 1 1#1
  let main_v55 : IVec S5000 1 := (fun x v => Host.reduce IntOp.andi x v reducesTo_S5000x15000_S5000_d1 h_S_) main_v54 main_c_12
  let main_v56 : FVec F S5000x64 .f32 := (Host.slice S5000x64 ![0, 0] ![3, 1] · slicesBy_S15000x64_S5000x64_0s3_0s1) main_arg1
  fn_part3 (F := F) main_arg1 main_v0 main_v55 main_v56

def fn_part1 {F : FTy → Type} [FloatOps F] (main_arg1 : FVec F S15000x64 .f32) (main_v0 : IVec S5000x15000 1) (main_v17 : FVec F S5000x15000 .f32) (main_cst_3 : FVec F S_ .f32) : IVec S5000x15000 1 × IVec S5000 1 × IVec S_ 1 :=
  let main_v18 : FVec F S5000x15000 .f32 := broadcastInDim S5000x15000 ![] bcast_S_S5000x15000 main_cst_3
  let main_v19 : FVec F S5000x15000 .f32 := maximumf main_v17 main_v18
  let main_v20 : FVec F S5000x15000 .f32 := Host.sqrt main_v19
  let main_v21 : IVec S5000 32 := iotaInDim S5000 32 0
  let main_c_4 : IVec S_ 32 := constantI S_ 32 3#32
  let main_v22 : IVec S5000 32 := broadcastInDim S5000 ![] bcast_S_S5000 main_c_4
  let main_v23 : IVec S5000 32 := muli main_v21 main_v22
  let main_c_5 : IVec S_ 32 := constantI S_ 32 1#32
  let main_v24 : IVec S5000 32 := broadcastInDim S5000 ![] bcast_S_S5000 main_c_5
  let main_v25 : IVec S5000 32 := addi main_v23 main_v24
  let main_c_6 : IVec S_ 32 := constantI S_ 32 0#32
  let main_v26 : IVec S5000 32 := broadcastInDim S5000 ![] bcast_S_S5000 main_c_6
  let main_v27 : IVec S5000 1 := cmpi .slt main_v21 main_v26
  let main_c_7 : IVec S_ 32 := constantI S_ 32 5000#32
  let main_v28 : IVec S5000 32 := broadcastInDim S5000 ![] bcast_S_S5000 main_c_7
  let main_v29 : IVec S5000 32 := addi main_v21 main_v28
  let main_v30 : IVec S5000 32 := select main_v27 main_v29 main_v21
  let main_c_8 : IVec S_ 32 := constantI S_ 32 0#32
  let main_v31 : IVec S5000 32 := broadcastInDim S5000 ![] bcast_S_S5000 main_c_8
  let main_v32 : IVec S5000 1 := cmpi .slt main_v25 main_v31
  let main_c_9 : IVec S_ 32 := constantI S_ 32 15000#32
  let main_v33 : IVec S5000 32 := broadcastInDim S5000 ![] bcast_S_S5000 main_c_9
  let main_v34 : IVec S5000 32 := addi main_v25 main_v33
  let main_v35 : IVec S5000 32 := select main_v32 main_v34 main_v25
  fn_part2 (F := F) main_arg1 main_v0 main_v20 main_v21 main_v30 main_v35

def fn {F : FTy → Type} [FloatOps F] (main_arg0 : FVec F S1 .f32) (main_arg1 : FVec F S15000x64 .f32) (main_arg2 : FVec F S1 .f32) : IVec S5000x15000 1 × IVec S5000 1 × IVec S_ 1 :=
  let main_c : IVec S_ 1 := constantI S_ 1 1#1
  let main_v0 : IVec S5000x15000 1 := broadcastInDim S5000x15000 ![] bcast_S_S5000x15000 main_c
  let main_v1 : FVec F S5000x64 .f32 := (Host.slice S5000x64 ![0, 0] ![3, 1] · slicesBy_S15000x64_S5000x64_0s3_0s1) main_arg1
  let main_v2 : FVec F S5000x64 .f32 := mulf main_v1 main_v1
  let main_cst : FVec F S_ .f32 := constant S_ .f32 0x00000000#32
  let main_v3 : FVec F S5000 .f32 := (fun x v => Host.reduceAdd x v reducesTo_S5000x64_S5000_d1 h_S_) main_v2 main_cst
  let main_v4 : FVec F S5000x1 .f32 := broadcastInDim S5000x1 ![0] bcast_S5000_S5000x1_0 main_v3
  let main_v5 : FVec F S15000x64 .f32 := mulf main_arg1 main_arg1
  let main_cst_0 : FVec F S_ .f32 := constant S_ .f32 0x00000000#32
  let main_v6 : FVec F S15000 .f32 := (fun x v => Host.reduceAdd x v reducesTo_S15000x64_S15000_d1 h_S_) main_v5 main_cst_0
  let main_v7 : FVec F S1x15000 .f32 := broadcastInDim S1x15000 ![1] bcast_S15000_S1x15000_1 main_v6
  let main_v8 : FVec F S5000x15000 .f32 := broadcastInDim S5000x15000 ![0, 1] bcast_S5000x1_S5000x15000_0_1 main_v4
  let main_v9 : FVec F S5000x15000 .f32 := broadcastInDim S5000x15000 ![0, 1] bcast_S1x15000_S5000x15000_0_1 main_v7
  let main_v10 : FVec F S5000x15000 .f32 := addf main_v8 main_v9
  let main_v11 : FVec F S64x15000 .f32 := (transpose S64x15000 [1, 0] · transposes_S15000x64_S64x15000_1_0) main_arg1
  let main_v12 : FVec F S5000x15000 .f32 := (fun l r => Host.dotGeneral dot_S5000x64_S64x15000_S5000x15000_1_0_0_1_n_n none l r) main_v1 main_v11
  let main_cst_1 : FVec F S_ .f32 := constant S_ .f32 0x40000000#32
  let main_v13 : FVec F S5000x15000 .f32 := broadcastInDim S5000x15000 ![] bcast_S_S5000x15000 main_cst_1
  let main_v14 : FVec F S5000x15000 .f32 := mulf main_v13 main_v12
  let main_v15 : FVec F S5000x15000 .f32 := subf main_v10 main_v14
  let main_cst_2 : FVec F S_ .f32 := constant S_ .f32 0x00000000#32
  let main_v16 : FVec F S5000x15000 .f32 := broadcastInDim S5000x15000 ![] bcast_S_S5000x15000 main_cst_2
  let main_v17 : FVec F S5000x15000 .f32 := maximumf main_v15 main_v16
  let main_cst_3 : FVec F S_ .f32 := constant S_ .f32 0x2B8CBCCC#32
  fn_part1 (F := F) main_arg1 main_v0 main_v17 main_cst_3
-- ==== Pre_finite.lean ====
abbrev S1 : Shape := ⟨1, ![1]⟩
abbrev S15000x64 : Shape := ⟨2, ![15000, 64]⟩
abbrev S_ : Shape := ⟨0, ![]⟩

class Facts : Prop where
  bcast_S_S15000x64 : S_.BroadcastsInDim S15000x64 (![] : Fin 0 → Fin S15000x64.rank)

variable [Facts]

def fn {F : FTy → Type} [FloatOps F] (main_arg0 : FVec F S1 .f32) (main_arg1 : FVec F S15000x64 .f32) (main_arg2 : FVec F S1 .f32) : IVec S15000x64 1 :=
  let main_v0 : FVec F S15000x64 .f32 := Host.absf main_arg1
  let main_cst : FVec F S_ .f32 := constant S_ .f32 0x7F800000#32
  let main_v1 : FVec F S15000x64 .f32 := broadcastInDim S15000x64 ![] bcast_S_S15000x64 main_cst
  let main_v2 : IVec S15000x64 1 := cmpf .olt main_v0 main_v1
  main_v2
-- ==== Pre_finite_untied.lean ====
abbrev S1 : Shape := ⟨1, ![1]⟩
abbrev S15000x64 : Shape := ⟨2, ![15000, 64]⟩
abbrev S_ : Shape := ⟨0, ![]⟩
abbrev S5000x64 : Shape := ⟨2, ![5000, 64]⟩
abbrev S5000 : Shape := ⟨1, ![5000]⟩
abbrev S5000x1 : Shape := ⟨2, ![5000, 1]⟩
abbrev S15000 : Shape := ⟨1, ![15000]⟩
abbrev S1x15000 : Shape := ⟨2, ![1, 15000]⟩
abbrev S5000x15000 : Shape := ⟨2, ![5000, 15000]⟩
abbrev S64x15000 : Shape := ⟨2, ![64, 15000]⟩
abbrev S5000x2 : Shape := ⟨2, ![5000, 2]⟩

class Facts : Prop where
  bcast_S_S15000x64 : S_.BroadcastsInDim S15000x64 (![] : Fin 0 → Fin S15000x64.rank)
  slicesBy_S15000x64_S5000x64_0s3_0s1 : S15000x64.SlicesBy (![0, 0] : Fin 2 → Nat) ![3, 1] S5000x64
  reducesTo_S5000x64_S5000_d1 : S5000x64.ReducesTo [1] S5000
  h_S_ : 0 < S_.numel
  bcast_S5000_S5000x1_0 : S5000.BroadcastsInDim S5000x1 (![0] : Fin 1 → Fin S5000x1.rank)
  reducesTo_S15000x64_S15000_d1 : S15000x64.ReducesTo [1] S15000
  bcast_S15000_S1x15000_1 : S15000.BroadcastsInDim S1x15000 (![1] : Fin 1 → Fin S1x15000.rank)
  bcast_S5000x1_S5000x15000_0_1 : S5000x1.BroadcastsInDim S5000x15000 (![0, 1] : Fin 2 → Fin S5000x15000.rank)
  bcast_S1x15000_S5000x15000_0_1 : S1x15000.BroadcastsInDim S5000x15000 (![0, 1] : Fin 2 → Fin S5000x15000.rank)
  transposes_S15000x64_S64x15000_1_0 : S15000x64.Transposes [1, 0] S64x15000
  bcast_S_S5000x15000 : S_.BroadcastsInDim S5000x15000 (![] : Fin 0 → Fin S5000x15000.rank)
  bcast_S_S5000 : S_.BroadcastsInDim S5000 (![] : Fin 0 → Fin S5000.rank)
  concatenates_S5000x1_S5000x1_S5000x2_d1 : Shape.Concatenates [S5000x1, S5000x1] S5000x2 1
  reducesTo_S5000x15000_S5000_d1 : S5000x15000.ReducesTo [1] S5000
  dot_S5000x64_S64x15000_S5000x15000_1_0_0_1_n_n_wf : DotDims.WF S5000x64 S64x15000 S5000x15000 [1] [0] [0] [1] [] []
  gather_S5000x15000_S5000x2_S5000_n_01_n_n_01_1_11_wf : GatherDims.WF S5000x15000 S5000x2 S5000 [] [0, 1] [] [0, 1] [] 1 ![1, 1]

variable [Facts]

def dot_S5000x64_S64x15000_S5000x15000_1_0_0_1_n_n : DotDims S5000x64 S64x15000 S5000x15000 where
  lhsContracting := [1]
  rhsContracting := [0]
  lhsNonContracting := [0]
  rhsNonContracting := [1]
  lhsBatch := []
  rhsBatch := []
  wf := dot_S5000x64_S64x15000_S5000x15000_1_0_0_1_n_n_wf
def gather_S5000x15000_S5000x2_S5000_n_01_n_n_01_1_11 : GatherDims S5000x15000 S5000x2 S5000 where
  offsetDims := []
  collapsedSliceDims := [0, 1]
  operandBatchingDims := []
  startIndicesBatchingDims := []
  startIndexMap := [0, 1]
  indexVectorDim := 1
  sliceSizes := ![1, 1]
  wf := gather_S5000x15000_S5000x2_S5000_n_01_n_n_01_1_11_wf
def fn_part3 {F : FTy → Type} [FloatOps F] (main_v2 : IVec S15000x64 1) (main_v56 : IVec S5000x15000 1) (main_c_12 : IVec S_ 1) : IVec S15000x64 1 × IVec S5000 1 :=
  let main_v57 : IVec S5000 1 := (fun x v => Host.reduce IntOp.andi x v reducesTo_S5000x15000_S5000_d1 h_S_) main_v56 main_c_12
  (main_v2, main_v57)

def fn_part2 {F : FTy → Type} [FloatOps F] (main_v2 : IVec S15000x64 1) (main_v22 : FVec F S5000x15000 .f32) (main_v23 : IVec S5000 32) (main_v27 : IVec S5000 32) (main_v32 : IVec S5000 32) (main_v34 : IVec S5000 1) (main_v35 : IVec S5000 32) : IVec S15000x64 1 × IVec S5000 1 :=
  let main_v36 : IVec S5000 32 := addi main_v27 main_v35
  let main_v37 : IVec S5000 32 := select main_v34 main_v36 main_v27
  let main_v38 : IVec S5000x1 32 := broadcastInDim S5000x1 ![0] bcast_S5000_S5000x1_0 main_v32
  let main_v39 : IVec S5000x1 32 := broadcastInDim S5000x1 ![0] bcast_S5000_S5000x1_0 main_v37
  let main_v40 : IVec S5000x2 32 := (fun a b => concatenate S5000x2 1 [⟨S5000x1, a⟩, ⟨S5000x1, b⟩] concatenates_S5000x1_S5000x1_S5000x2_d1) main_v38 main_v39
  let main_v41 : FVec F S5000 .f32 := (fun x i => Host.gather gather_S5000x15000_S5000x2_S5000_n_01_n_n_01_1_11 x i) main_v22 main_v40
  let main_v42 : IVec S15000 32 := iotaInDim S15000 32 0
  let main_v43 : IVec S1x15000 32 := broadcastInDim S1x15000 ![1] bcast_S15000_S1x15000_1 main_v42
  let main_c_10 : IVec S_ 32 := constantI S_ 32 3#32
  let main_v44 : IVec S5000 32 := broadcastInDim S5000 ![] bcast_S_S5000 main_c_10
  let main_v45 : IVec S5000 32 := muli main_v23 main_v44
  let main_c_11 : IVec S_ 32 := constantI S_ 32 1#32
  let main_v46 : IVec S5000 32 := broadcastInDim S5000 ![] bcast_S_S5000 main_c_11
  let main_v47 : IVec S5000 32 := addi main_v45 main_v46
  let main_v48 : IVec S5000x1 32 := broadcastInDim S5000x1 ![0] bcast_S5000_S5000x1_0 main_v47
  let main_v49 : IVec S5000x15000 32 := broadcastInDim S5000x15000 ![0, 1] bcast_S1x15000_S5000x15000_0_1 main_v43
  let main_v50 : IVec S5000x15000 32 := broadcastInDim S5000x15000 ![0, 1] bcast_S5000x1_S5000x15000_0_1 main_v48
  let main_v51 : IVec S5000x15000 1 := cmpi .slt main_v49 main_v50
  let main_v52 : FVec F S5000x1 .f32 := broadcastInDim S5000x1 ![0] bcast_S5000_S5000x1_0 main_v41
  let main_v53 : FVec F S5000x15000 .f32 := broadcastInDim S5000x15000 ![0, 1] bcast_S5000x1_S5000x15000_0_1 main_v52
  let main_v54 : IVec S5000x15000 1 := cmpf .oeq main_v22 main_v53
  let main_v55 : IVec S5000x15000 1 := andi main_v54 main_v51
  let main_v56 : IVec S5000x15000 1 := noti main_v55
  let main_c_12 : IVec S_ 1 := constantI S_ 1 1#1
  fn_part3 (F := F) main_v2 main_v56 main_c_12

def fn_part1 {F : FTy → Type} [FloatOps F] (main_v2 : IVec S15000x64 1) (main_v17 : FVec F S5000x15000 .f32) (main_v18 : FVec F S5000x15000 .f32) : IVec S15000x64 1 × IVec S5000 1 :=
  let main_v19 : FVec F S5000x15000 .f32 := maximumf main_v17 main_v18
  let main_cst_4 : FVec F S_ .f32 := constant S_ .f32 0x2B8CBCCC#32
  let main_v20 : FVec F S5000x15000 .f32 := broadcastInDim S5000x15000 ![] bcast_S_S5000x15000 main_cst_4
  let main_v21 : FVec F S5000x15000 .f32 := maximumf main_v19 main_v20
  let main_v22 : FVec F S5000x15000 .f32 := Host.sqrt main_v21
  let main_v23 : IVec S5000 32 := iotaInDim S5000 32 0
  let main_c : IVec S_ 32 := constantI S_ 32 3#32
  let main_v24 : IVec S5000 32 := broadcastInDim S5000 ![] bcast_S_S5000 main_c
  let main_v25 : IVec S5000 32 := muli main_v23 main_v24
  let main_c_5 : IVec S_ 32 := constantI S_ 32 1#32
  let main_v26 : IVec S5000 32 := broadcastInDim S5000 ![] bcast_S_S5000 main_c_5
  let main_v27 : IVec S5000 32 := addi main_v25 main_v26
  let main_c_6 : IVec S_ 32 := constantI S_ 32 0#32
  let main_v28 : IVec S5000 32 := broadcastInDim S5000 ![] bcast_S_S5000 main_c_6
  let main_v29 : IVec S5000 1 := cmpi .slt main_v23 main_v28
  let main_c_7 : IVec S_ 32 := constantI S_ 32 5000#32
  let main_v30 : IVec S5000 32 := broadcastInDim S5000 ![] bcast_S_S5000 main_c_7
  let main_v31 : IVec S5000 32 := addi main_v23 main_v30
  let main_v32 : IVec S5000 32 := select main_v29 main_v31 main_v23
  let main_c_8 : IVec S_ 32 := constantI S_ 32 0#32
  let main_v33 : IVec S5000 32 := broadcastInDim S5000 ![] bcast_S_S5000 main_c_8
  let main_v34 : IVec S5000 1 := cmpi .slt main_v27 main_v33
  let main_c_9 : IVec S_ 32 := constantI S_ 32 15000#32
  let main_v35 : IVec S5000 32 := broadcastInDim S5000 ![] bcast_S_S5000 main_c_9
  fn_part2 (F := F) main_v2 main_v22 main_v23 main_v27 main_v32 main_v34 main_v35

def fn {F : FTy → Type} [FloatOps F] (main_arg0 : FVec F S1 .f32) (main_arg1 : FVec F S15000x64 .f32) (main_arg2 : FVec F S1 .f32) : IVec S15000x64 1 × IVec S5000 1 :=
  let main_v0 : FVec F S15000x64 .f32 := Host.absf main_arg1
  let main_cst : FVec F S_ .f32 := constant S_ .f32 0x7F800000#32
  let main_v1 : FVec F S15000x64 .f32 := broadcastInDim S15000x64 ![] bcast_S_S15000x64 main_cst
  let main_v2 : IVec S15000x64 1 := cmpf .olt main_v0 main_v1
  let main_v3 : FVec F S5000x64 .f32 := (Host.slice S5000x64 ![0, 0] ![3, 1] · slicesBy_S15000x64_S5000x64_0s3_0s1) main_arg1
  let main_v4 : FVec F S5000x64 .f32 := mulf main_v3 main_v3
  let main_cst_0 : FVec F S_ .f32 := constant S_ .f32 0x00000000#32
  let main_v5 : FVec F S5000 .f32 := (fun x v => Host.reduceAdd x v reducesTo_S5000x64_S5000_d1 h_S_) main_v4 main_cst_0
  let main_v6 : FVec F S5000x1 .f32 := broadcastInDim S5000x1 ![0] bcast_S5000_S5000x1_0 main_v5
  let main_v7 : FVec F S15000x64 .f32 := mulf main_arg1 main_arg1
  let main_cst_1 : FVec F S_ .f32 := constant S_ .f32 0x00000000#32
  let main_v8 : FVec F S15000 .f32 := (fun x v => Host.reduceAdd x v reducesTo_S15000x64_S15000_d1 h_S_) main_v7 main_cst_1
  let main_v9 : FVec F S1x15000 .f32 := broadcastInDim S1x15000 ![1] bcast_S15000_S1x15000_1 main_v8
  let main_v10 : FVec F S5000x15000 .f32 := broadcastInDim S5000x15000 ![0, 1] bcast_S5000x1_S5000x15000_0_1 main_v6
  let main_v11 : FVec F S5000x15000 .f32 := broadcastInDim S5000x15000 ![0, 1] bcast_S1x15000_S5000x15000_0_1 main_v9
  let main_v12 : FVec F S5000x15000 .f32 := addf main_v10 main_v11
  let main_v13 : FVec F S64x15000 .f32 := (transpose S64x15000 [1, 0] · transposes_S15000x64_S64x15000_1_0) main_arg1
  let main_v14 : FVec F S5000x15000 .f32 := (fun l r => Host.dotGeneral dot_S5000x64_S64x15000_S5000x15000_1_0_0_1_n_n none l r) main_v3 main_v13
  let main_cst_2 : FVec F S_ .f32 := constant S_ .f32 0x40000000#32
  let main_v15 : FVec F S5000x15000 .f32 := broadcastInDim S5000x15000 ![] bcast_S_S5000x15000 main_cst_2
  let main_v16 : FVec F S5000x15000 .f32 := mulf main_v15 main_v14
  let main_v17 : FVec F S5000x15000 .f32 := subf main_v12 main_v16
  let main_cst_3 : FVec F S_ .f32 := constant S_ .f32 0x00000000#32
  let main_v18 : FVec F S5000x15000 .f32 := broadcastInDim S5000x15000 ![] bcast_S_S5000x15000 main_cst_3
  fn_part1 (F := F) main_v2 main_v17 main_v18
-- ==== Kernel.lean ====
abbrev S1 : Shape := ⟨1, ![1]⟩
abbrev S15000x64 : Shape := ⟨2, ![15000, 64]⟩
abbrev S5000x15000 : Shape := ⟨2, ![5000, 15000]⟩
abbrev S5000x1 : Shape := ⟨2, ![5000, 1]⟩
abbrev S1x1 : Shape := ⟨2, ![1, 1]⟩
abbrev S5000 : Shape := ⟨1, ![5000]⟩
abbrev S_ : Shape := ⟨0, ![]⟩
abbrev S600x64 : Shape := ⟨2, ![600, 64]⟩
abbrev S200x15000 : Shape := ⟨2, ![200, 15000]⟩
abbrev S200x1 : Shape := ⟨2, ![200, 1]⟩
abbrev S72x15000 : Shape := ⟨2, ![72, 15000]⟩
abbrev S64x15000 : Shape := ⟨2, ![64, 15000]⟩
abbrev S15000 : Shape := ⟨1, ![15000]⟩
abbrev S1x15000 : Shape := ⟨2, ![1, 15000]⟩
abbrev S6x15000 : Shape := ⟨2, ![6, 15000]⟩
abbrev S200x3x64 : Shape := ⟨3, ![200, 3, 64]⟩
abbrev S200x1x64 : Shape := ⟨3, ![200, 1, 64]⟩
abbrev S200x64 : Shape := ⟨2, ![200, 64]⟩
abbrev S200 : Shape := ⟨1, ![200]⟩
abbrev S200x6 : Shape := ⟨2, ![200, 6]⟩
abbrev S200x72 : Shape := ⟨2, ![200, 72]⟩
abbrev S64x600 : Shape := ⟨2, ![64, 600]⟩
abbrev S600 : Shape := ⟨1, ![600]⟩
abbrev S1x600 : Shape := ⟨2, ![1, 600]⟩
abbrev S6x600 : Shape := ⟨2, ![6, 600]⟩
abbrev S72x600 : Shape := ⟨2, ![72, 600]⟩
abbrev S200x600 : Shape := ⟨2, ![200, 600]⟩
abbrev S1x200x1 : Shape := ⟨3, ![1, 200, 1]⟩
abbrev S1x1x1 : Shape := ⟨3, ![1, 1, 1]⟩

abbrev nBuf : Space → Nat
  | .hbm => 10
  | .vmem => 9
  | .smem => 0
  | _ => 0

abbrev bufTy : (tb : Table) → Fin (tcTables nBuf tb) → BufTy
  | .hbm, ⟨0, _⟩ => ⟨S1, .f32⟩
  | .hbm, ⟨1, _⟩ => ⟨S15000x64, .f32⟩
  | .hbm, ⟨2, _⟩ => ⟨S1, .f32⟩
  | .hbm, ⟨3, _⟩ => ⟨S5000x15000, .f32⟩
  | .hbm, ⟨4, _⟩ => ⟨S5000x1, .i32⟩
  | .hbm, ⟨5, _⟩ => ⟨S1x1, .f32⟩
  | .hbm, ⟨6, _⟩ => ⟨S5000, .i32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S15000x64, .f32⟩
  | .local _ .vmem, ⟨1, _⟩ => ⟨S600x64, .f32⟩
  | .local _ .vmem, ⟨2, _⟩ => ⟨S600x64, .f32⟩
  | .local _ .vmem, ⟨3, _⟩ => ⟨S200x15000, .f32⟩
  | .local _ .vmem, ⟨4, _⟩ => ⟨S200x15000, .f32⟩
  | .local _ .vmem, ⟨5, _⟩ => ⟨S200x1, .i32⟩
  | .local _ .vmem, ⟨6, _⟩ => ⟨S200x1, .i32⟩
  | .local _ .vmem, ⟨7, _⟩ => ⟨S1x1, .f32⟩
  | .local _ .vmem, ⟨8, _⟩ => ⟨S72x15000, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_call0_v0_1 : Ref sig .tc := ⟨.hbm, 4, rfl⟩
abbrev main_call0_v0_2 : Ref sig .tc := ⟨.hbm, 5, rfl⟩
abbrev main_v0_1 : Ref sig .tc := ⟨.hbm, 6, rfl⟩
abbrev main_call0_v2 : Ref sig .tc := ⟨.hbm, 7, rfl⟩
abbrev main_call0_cst : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S15000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S600x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x15000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1 : Shape := ⟨1, ![1]⟩
abbrev S15000x64 : Shape := ⟨2, ![15000, 64]⟩
abbrev S5000x64 : Shape := ⟨2, ![5000, 64]⟩
abbrev S_ : Shape := ⟨0, ![]⟩
abbrev S5000 : Shape := ⟨1, ![5000]⟩
abbrev S5000x1 : Shape := ⟨2, ![5000, 1]⟩
abbrev S15000 : Shape := ⟨1, ![15000]⟩
abbrev S1x15000 : Shape := ⟨2, ![1, 15000]⟩
abbrev S5000x15000 : Shape := ⟨2, ![5000, 15000]⟩
abbrev S64x15000 : Shape := ⟨2, ![64, 15000]⟩
abbrev S5000x2 : Shape := ⟨2, ![5000, 2]⟩

abbrev nBuf : Space → Nat
  | .hbm => 67
  | .vmem => 0
  | .smem => 0
  | _ => 0

abbrev bufTy : (tb : Table) → Fin (tcTables nBuf tb) → BufTy
  | .hbm, ⟨0, _⟩ => ⟨S1, .f32⟩
  | .hbm, ⟨1, _⟩ => ⟨S15000x64, .f32⟩
  | .hbm, ⟨2, _⟩ => ⟨S1, .f32⟩
  | .hbm, ⟨3, _⟩ => ⟨S5000x64, .f32⟩
  | .hbm, ⟨4, _⟩ => ⟨S5000x64, .f32⟩
  | .hbm, ⟨5, _⟩ => ⟨S_, .f32⟩
  | .hbm, ⟨6, _⟩ => ⟨S5000, .f32⟩
  | .hbm, ⟨7, _⟩ => ⟨S5000x1, .f32⟩
  | .hbm, ⟨8, _⟩ => ⟨S15000x64, .f32⟩
  | .hbm, ⟨9, _⟩ => ⟨S_, .f32⟩
  | .hbm, ⟨10, _⟩ => ⟨S15000, .f32⟩
  | .hbm, ⟨11, _⟩ => ⟨S1x15000, .f32⟩
  | .hbm, ⟨12, _⟩ => ⟨S5000x15000, .f32⟩
  | .hbm, ⟨13, _⟩ => ⟨S5000x15000, .f32⟩
  | .hbm, ⟨14, _⟩ => ⟨S5000x15000, .f32⟩
  | .hbm, ⟨15, _⟩ => ⟨S64x15000, .f32⟩
  | .hbm, ⟨16, _⟩ => ⟨S5000x15000, .f32⟩
  | .hbm, ⟨17, _⟩ => ⟨S_, .f32⟩
  | .hbm, ⟨18, _⟩ => ⟨S5000x15000, .f32⟩
  | .hbm, ⟨19, _⟩ => ⟨S5000x15000, .f32⟩
  | .hbm, ⟨20, _⟩ => ⟨S5000x15000, .f32⟩
  | .hbm, ⟨21, _⟩ => ⟨S_, .f32⟩
  | .hbm, ⟨22, _⟩ => ⟨S5000x15000, .f32⟩
  | .hbm, ⟨23, _⟩ => ⟨S5000x15000, .f32⟩
  | .hbm, ⟨24, _⟩ => ⟨S_, .f32⟩
  | .hbm, ⟨25, _⟩ => ⟨S5000x15000, .f32⟩
  | .hbm, ⟨26, _⟩ => ⟨S5000x15000, .f32⟩
  | .hbm, ⟨27, _⟩ => ⟨S5000x15000, .f32⟩
  | .hbm, ⟨28, _⟩ => ⟨S5000x15000, .i32⟩
  | .hbm, ⟨29, _⟩ => ⟨S5000x15000, .f32⟩
  | .hbm, ⟨30, _⟩ => ⟨S5000x15000, .i32⟩
  | .hbm, ⟨31, _⟩ => ⟨S5000x15000, .i32⟩
  | .hbm, ⟨32, _⟩ => ⟨S5000x15000, .i32⟩
  | .hbm, ⟨33, _⟩ => ⟨S5000x15000, .i32⟩
  | .hbm, ⟨34, _⟩ => ⟨S5000, .i32⟩
  | .hbm, ⟨35, _⟩ => ⟨S_, .i32⟩
  | .hbm, ⟨36, _⟩ => ⟨S5000, .i32⟩
  | .hbm, ⟨37, _⟩ => ⟨S5000, .i32⟩
  | .hbm, ⟨38, _⟩ => ⟨S_, .i32⟩
  | .hbm, ⟨39, _⟩ => ⟨S5000, .i32⟩
  | .hbm, ⟨40, _⟩ => ⟨S5000, .i32⟩
  | .hbm, ⟨41, _⟩ => ⟨S_, .i32⟩
  | .hbm, ⟨42, _⟩ => ⟨S5000, .i32⟩
  | .hbm, ⟨43, _⟩ => ⟨S5000, .i1⟩
  | .hbm, ⟨44, _⟩ => ⟨S_, .i32⟩
  | .hbm, ⟨45, _⟩ => ⟨S5000, .i32⟩
  | .hbm, ⟨46, _⟩ => ⟨S5000, .i32⟩
  | .hbm, ⟨47, _⟩ => ⟨S5000, .i32⟩
  | .hbm, ⟨48, _⟩ => ⟨S_, .i32⟩
  | .hbm, ⟨49, _⟩ => ⟨S5000, .i32⟩
  | .hbm, ⟨50, _⟩ => ⟨S5000, .i1⟩
  | .hbm, ⟨51, _⟩ => ⟨S_, .i32⟩
  | .hbm, ⟨52, _⟩ => ⟨S5000, .i32⟩
  | .hbm, ⟨53, _⟩ => ⟨S5000, .i32⟩
  | .hbm, ⟨54, _⟩ => ⟨S5000, .i32⟩
  | .hbm, ⟨55, _⟩ => ⟨S5000x1, .i32⟩
  | .hbm, ⟨56, _⟩ => ⟨S5000x1, .i32⟩
  | .hbm, ⟨57, _⟩ => ⟨S5000x2, .i32⟩
  | .hbm, ⟨58, _⟩ => ⟨S5000, .i32⟩
  | .hbm, ⟨59, _⟩ => ⟨S_, .i32⟩
  | .hbm, ⟨60, _⟩ => ⟨S5000, .i32⟩
  | .hbm, ⟨61, _⟩ => ⟨S5000, .i32⟩
  | .hbm, ⟨62, _⟩ => ⟨S5000, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1_0 : Ref sig .tc := ⟨.hbm, 29, rfl⟩
abbrev main_v20 : Ref sig .tc := ⟨.hbm, 30, rfl⟩
abbrev main_call1_v0 : Ref sig .tc := ⟨.hbm, 31, rfl⟩
abbrev main_call1_v1_0 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Proof.Point.lean ====
/-
  What ONE POINT of the kernel's grid computes, for any reading of the floats.

  At the first point the body fills the scratch (the transposed table, its row norms, a row of ones, rows of zeros) and
  clears the running sum; at every point it multiplies the point's augmented queries by the scratch, and writes the
  block's distances, the block's ranks and the running sum of the ranks. Each is stated here as the body's own stored
  value of the point's input block `x1`, of the scratch `s` and of the running sum before the point.
-/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.KernelIdeal.Point

open Cert.KernelIdeal Cert.KernelIdeal.Gen

variable {F : FTy → Type} [FloatOps F]

/-- Offsets `(0, 0)` are the zero offsets. -/
theorem zero_off : (![0, 0] : Fin 2 → Nat) = fun _ => 0 := funext fun a => by fin_cases a <;> rfl

/-- The block of distances a point writes, of its input block and of the scratch. -/
def distBlock (x1 : Vec F S600x64 .f32) (s : Vec F S72x15000 .f32) : Vec F S200x15000 .f32 := k0_pay11 (k0_pay6 x1) s

/-- The block of ranks a point writes. -/
def rankBlock (i : grid0.Coords) (x1 : Vec F S600x64 .f32) (s : Vec F S72x15000 .f32) : Vec F S200x1 .i32 :=
  k0_pay12 (k0_pay6 x1) (k0_pay7 x1 x1) (k0_pay8 i) (k0_pay9 i) s

/-- The running sum after a point, of the running sum `acc` before it. -/
def sumStep (i : grid0.Coords) (x1 : Vec F S600x64 .f32) (s : Vec F S72x15000 .f32) (acc : Vec F S1x1 .f32) : Vec F S1x1 .f32 :=
  k0_pay14 (k0_pay6 x1) (k0_pay7 x1 x1) (k0_pay8 i) (k0_pay9 i) s acc

section later
variable (c : Dev nD) (i : grid0.Coords) (a1 : Memref sig .tc .vmem S15000x64 .f32) (h1 : a1.IsWhole)
  (a2 : Memref sig .tc .vmem S600x64 .f32) (h2 : a2.IsWhole) (a3 : Memref sig .tc .vmem S200x15000 .f32) (h3 : a3.IsWhole)
  (a4 : Memref sig .tc .vmem S200x1 .i32) (h4 : a4.IsWhole) (a5 : Memref sig .tc .vmem S1x1 .f32) (h5 : a5.IsWhole)
  (a6 : Memref sig .tc .vmem S72x15000 .f32) (h6 : a6.IsWhole) (hc0 : ¬cond0_0 i) (hc1 : ¬cond0_1 i)
  (x0 : Vec F S15000x64 .f32) (x1 : Vec F S600x64 .f32) (acc : Vec F S1x1 .f32) (s : Vec F S72x15000 .f32)

/-- At a later point the distances written are `distBlock` of the block and of the scratch as it stands. -/
theorem dist_later : out0_B_2 c i a1 h1 a2 h2 a3 h3 a4 h4 a5 h5 a6 h6 hc0 hc1 x0 x1 acc s = distBlock x1 s := by
  unfold out0_B_2
  rw [View.read_writes_eq_canon _ _ _ (cover0_B_2 c i a1 h1 a2 h2 a3 h3 a4 h4 a5 h5 a6 h6 hc0 hc1 x0 x1 acc s)]
  unfold kernelRun0_B
  dsimp only
  sl_unfold_words
  rw [View.canon_unit_zero zero_off]
  simp only [View.readAt_eq_ld, h2.read_unread, h6.read_unread, View.ld_unit_zero (S := S600x64) zero_off, View.ld_unit_zero (S := S72x15000) zero_off]
  rfl

/-- At a later point the ranks written are `rankBlock` of the block and of the scratch as it stands. -/
theorem rank_later : out0_B_3 c i a1 h1 a2 h2 a3 h3 a4 h4 a5 h5 a6 h6 hc0 hc1 x0 x1 acc s = rankBlock i x1 s := by
  unfold out0_B_3
  rw [View.read_writes_eq_canon _ _ _ (cover0_B_3 c i a1 h1 a2 h2 a3 h3 a4 h4 a5 h5 a6 h6 hc0 hc1 x0 x1 acc s)]
  unfold kernelRun0_B
  dsimp only
  sl_unfold_words
  rw [View.canon_unit_zero zero_off]
  simp only [View.readAt_eq_ld, h2.read_unread, h6.read_unread, View.ld_unit_zero (S := S600x64) zero_off, View.ld_unit_zero (S := S72x15000) zero_off]
  rfl

/-- At a later point the running sum becomes `sumStep` of itself. -/
theorem sum_later : out0_B_4 c i a1 h1 a2 h2 a3 h3 a4 h4 a5 h5 a6 h6 hc0 hc1 x0 x1 acc s = sumStep i x1 s acc := by
  unfold out0_B_4
  rw [View.read_writes_eq_canon _ _ _ (cover0_B_4 c i a1 h1 a2 h2 a3 h3 a4 h4 a5 h5 a6 h6 hc0 hc1 x0 x1 acc s)]
  unfold kernelRun0_B
  dsimp only
  sl_unfold_words
  rw [View.canon_unit_zero zero_off]
  simp only [View.readAt_eq_ld, h2.read_unread, h5.read_unread, h6.read_unread, View.ld_unit_zero (S := S600x64) zero_off,
    View.ld_unit_zero (S := S72x15000) zero_off, View.ld_unit_zero (S := S1x1) zero_off]
  rfl

end later

/-! ### The first point -/

/-- The four stores that fill the scratch at the first point, last first: rows 66 to 71 are zeros, row 65 ones, row 64 the
    squared norms of the table's rows, rows 0 to 63 the transposed table. -/
def scratchPieces (x0 : Vec F S15000x64 .f32) : List (View.Piece (Elt F) S72x15000 .f32) :=
  [⟨Rect.unit ![66, 0] S6x15000.size inb_S72x15000_S6x15000_66_0, k0_pay5⟩,
    ⟨Rect.unit ![65, 0] S1x15000.size inb_S72x15000_S1x15000_65_0, k0_pay4⟩,
    ⟨Rect.unit ![64, 0] S1x15000.size inb_S72x15000_S1x15000_64_0, k0_pay3 x0⟩,
    ⟨Rect.unit ![0, 0] S64x15000.size inb_S72x15000_S64x15000_0_0, k0_pay2 x0⟩]

/-- The scratch once filled. -/
def scratch (x0 : Vec F S15000x64 .f32) : Vec F S72x15000 .f32 :=
  haveI : ∀ e, Nonempty (Elt F e) := fun e => inferInstance
  View.canon (scratchPieces x0)

section first
variable (c : Dev nD) (i : grid0.Coords) (a1 : Memref sig .tc .vmem S15000x64 .f32) (h1 : a1.IsWhole)
  (a2 : Memref sig .tc .vmem S600x64 .f32) (h2 : a2.IsWhole) (a3 : Memref sig .tc .vmem S200x15000 .f32) (h3 : a3.IsWhole)
  (a4 : Memref sig .tc .vmem S200x1 .i32) (h4 : a4.IsWhole) (a5 : Memref sig .tc .vmem S1x1 .f32) (h5 : a5.IsWhole)
  (a6 : Memref sig .tc .vmem S72x15000 .f32) (h6 : a6.IsWhole) (hc0 : cond0_0 i) (hc1 : cond0_1 i)
  (x0 : Vec F S15000x64 .f32) (x1 : Vec F S600x64 .f32)

/-- The scratch loaded whole after the four stores is `scratch`. -/
theorem load_scratch : a6.view.readCov (scratchPieces x0) (Rect.unit ![0, 0] S72x15000.size inb_S72x15000_S72x15000_0_0).toLoadRect = scratch x0 := by
  rw [View.readCov_eq_canon']
  exact View.ld_unit_zero (S := S72x15000) zero_off inb_S72x15000_S72x15000_0_0 (scratch x0)

/-- The first point leaves `scratch` of the table in the scratch. -/
theorem scratch_first : sout0_A_0 c i a1 h1 a2 h2 a3 h3 a4 h4 a5 h5 a6 h6 hc0 hc1 x0 x1 = scratch x0 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  simp only [View.readAt_eq_ld, h1.read_unread, View.ld_unit_zero (S := S15000x64) zero_off]
  rfl

/-- At the first point the distances written are `distBlock` of the scratch just filled. -/
theorem dist_first : out0_A_2 c i a1 h1 a2 h2 a3 h3 a4 h4 a5 h5 a6 h6 hc0 hc1 x0 x1 = distBlock x1 (scratch x0) := by
  unfold out0_A_2
  rw [View.read_writes_eq_canon _ _ _ (cover0_A_2 c i a1 h1 a2 h2 a3 h3 a4 h4 a5 h5 a6 h6 hc0 hc1 x0 x1)]
  unfold kernelRun0_A
  dsimp only
  sl_unfold_words
  rw [View.canon_unit_zero zero_off]
  simp only [View.readAt_eq_ld, h1.read_unread, h2.read_unread, View.ld_unit_zero (S := S15000x64) zero_off, View.ld_unit_zero (S := S600x64) zero_off]
  exact congrArg (k0_pay11 (k0_pay6 x1)) (load_scratch a6 x0)

/-- At the first point the ranks written are `rankBlock` of the scratch just filled. -/
theorem rank_first : out0_A_3 c i a1 h1 a2 h2 a3 h3 a4 h4 a5 h5 a6 h6 hc0 hc1 x0 x1 = rankBlock i x1 (scratch x0) := by
  unfold out0_A_3
  rw [View.read_writes_eq_canon _ _ _ (cover0_A_3 c i a1 h1 a2 h2 a3 h3 a4 h4 a5 h5 a6 h6 hc0 hc1 x0 x1)]
  unfold kernelRun0_A
  dsimp only
  sl_unfold_words
  rw [View.canon_unit_zero zero_off]
  simp only [View.readAt_eq_ld, h1.read_unread, h2.read_unread, View.ld_unit_zero (S := S15000x64) zero_off, View.ld_unit_zero (S := S600x64) zero_off]
  exact congrArg (k0_pay12 (k0_pay6 x1) (k0_pay7 x1 x1) (k0_pay8 i) (k0_pay9 i)) (load_scratch a6 x0)

/-- At the first point the running sum is `sumStep` of zero. -/
theorem sum_first : out0_A_4 c i a1 h1 a2 h2 a3 h3 a4 h4 a5 h5 a6 h6 hc0 hc1 x0 x1 = sumStep i x1 (scratch x0) k0_pay13 := by
  unfold out0_A_4
  rw [View.read_writes_eq_canon _ _ _ (cover0_A_4 c i a1 h1 a2 h2 a3 h3 a4 h4 a5 h5 a6 h6 hc0 hc1 x0 x1)]
  unfold kernelRun0_A
  dsimp only
  sl_unfold_words
  rw [View.canon_cons_unit_zero (S := S1x1) zero_off, View.readCov_unit_zero (S := S1x1) _ zero_off]
  simp only [View.readAt_eq_ld, h1.read_unread, h2.read_unread, View.ld_unit_zero (S := S15000x64) zero_off, View.ld_unit_zero (S := S600x64) zero_off]
  exact congrArg (fun s => k0_pay14 (k0_pay6 x1) (k0_pay7 x1 x1) (k0_pay8 i) (k0_pay9 i) s k0_pay13) (load_scratch a6 x0)

end first

end Cert.KernelIdeal.Point

end
-- ==== Proof.Arrays.lean ====
/-
  What the kernel's result arrays hold when its grid is done, for any reading of the floats: the array of distances is
  the points' blocks of 200 rows put together, the array of ranks likewise, and the running sum is what the last point
  leaves. Then the three results, after the host's two reshapes and its division by 5000.
-/
module

public import proofs.«01_k».proof.Proof.Point
public import Idealize.ShloMosaic.Lib.Pointwise

@[expose] public section

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Point

variable {F : FTy → Type} [FloatOps F]
variable (m : (ℓ : Loc nD τ sig) → Buf (Elt F) ℓ) (ρ : Dev nD → PrngReg)

/-- The table the kernel is launched on. -/
abbrev table (c : Dev nD) : Vec F S15000x64 .f32 := m ((c : Thread nD τ).loc main_arg1)

/-- The rows `600 t` to `600 t + 599` of a table. -/
def rows (x : Vec F S15000x64 .f32) (t : Fin 25) : Vec F S600x64 .f32 := fun j =>
  x (ix2 (n0 := 15000) (n1 := 64) ⟨600 * t.val + (j 0).val, by have h : (j 0).val < 600 := (j 0).isLt; have := t.isLt; omega⟩ (j 1))

/-- The grid point of a number below 25. -/
def coord (t : Fin 25) : grid0.Coords := fun | ⟨0, _⟩ => t

/-- The running sum after each point. -/
def running (x : Vec F S15000x64 .f32) : (n : ℕ) → n < 25 → Vec F S1x1 .f32
  | 0, h => sumStep (coord ⟨0, h⟩) (rows x ⟨0, h⟩) (scratch x) k0_pay13
  | n + 1, h => sumStep (coord ⟨n + 1, h⟩) (rows x ⟨n + 1, h⟩) (scratch x) (running x n (Nat.lt_of_succ_lt h))

/-- The running sum, one point on. -/
theorem running_succ (x : Vec F S15000x64 .f32) (n : ℕ) (h : n + 1 < 25) : running x (n + 1) h =
    sumStep (coord ⟨n + 1, h⟩) (rows x ⟨n + 1, h⟩) (scratch x) (running x n (Nat.lt_of_succ_lt h)) := rfl

/-- The grid has 25 points. -/
theorem lt25 (t : Fin cfg0.N) : t.val < 25 := N_0 ▸ t.isLt

/-- Point `t`'s coordinate is `t`. -/
theorem coords_val (t : Fin cfg0.N) : (grid0.coords t 0).val = t.val :=
  (Pipeline.Grid.coords_val (G := grid0) (S := 1) (B := 25) t 0 (by decide) rfl).trans (by have := lt25 t; omega)

/-- Point `t`'s coordinates are those of the number `t`. -/
theorem coords_eq (t : Fin cfg0.N) : grid0.coords t = coord ⟨t.val, lt25 t⟩ :=
  funext fun a => match a with | ⟨0, _⟩ => Fin.ext (coords_val t)

/-- The first window's block is the whole table at every point. -/
theorem block_table (c : Dev nD) (t : Fin cfg0.N) : iblk m c 0 t = table m c := by
  funext j
  unfold iblk
  rw [View.read_apply]
  show V m c main_arg1 _ = m (c.tc.loc main_arg1) _
  unfold V
  congr 1
  funext a
  apply Fin.ext
  match a with
  | ⟨0, _⟩ => show 0 * 15000 + 1 * (j 0).val = (j 0).val; omega
  | ⟨1, _⟩ => show 0 * 64 + 1 * (j 1).val = (j 1).val; omega

/-- The row blocks' index along the rows is the point's number. -/
theorem index_rows (t : Fin cfg0.N) : win0_1.index t 0 = t.val ∧ win0_2.index t 0 = t.val ∧ win0_3.index t 0 = t.val := by
  have h : (BitVec.ofNat 32 (grid0.coords t 0).val).toNat = t.val := by
    rw [coords_val, BitVec.toNat_ofNat]; have := lt25 t; omega
  exact ⟨h, h, h⟩

/-- The second window's block at point `t` is the table's rows from `600 t`. -/
theorem block_rows (c : Dev nD) (t : Fin cfg0.N) : iblk m c 1 t = rows (table m c) ⟨t.val, lt25 t⟩ := by
  funext j
  unfold iblk
  rw [View.read_apply]
  show V m c main_arg1 _ = m (c.tc.loc main_arg1) _
  unfold V
  congr 1
  funext a
  apply Fin.ext
  match a with
  | ⟨0, _⟩ => show win0_1.index t 0 * 600 + 1 * (j 0).val = 600 * t.val + (j 0).val; rw [(index_rows t).1]; omega
  | ⟨1, _⟩ => show 0 * 64 + 1 * (j 1).val = (j 1).val; omega

/-- What the body leaves at each point: the distances and ranks of the point's rows, the running sum, and the scratch as
    the first point filled it. -/
theorem after_point (c : Dev nD) : ∀ (n : ℕ) (h : n < cfg0.N), outsAt0 m c n h =
    (distBlock (rows (table m c) ⟨n, lt25 ⟨n, h⟩⟩) (scratch (table m c)),
      rankBlock (coord ⟨n, lt25 ⟨n, h⟩⟩) (rows (table m c) ⟨n, lt25 ⟨n, h⟩⟩) (scratch (table m c)),
      running (table m c) n (lt25 ⟨n, h⟩), scratch (table m c))
  | 0, h => by
    rw [show outsAt0 m c 0 h = _ from outsAt0_A m c ⟨0, h⟩ rfl rfl, dist_first, rank_first, sum_first, scratch_first, block_rows, block_table, coords_eq]
    rfl
  | n + 1, h => by
    have hN : cfg0.N = 25 := N_0
    have hB : ¬(⟨n + 1, h⟩ : Fin cfg0.N).val % 25 = 0 := by dsimp only; omega
    rw [show outsAt0 m c (n + 1) h = _ from outsAt0_B m c ⟨n + 1, h⟩ hB hB, dist_later, rank_later, sum_later]
    unfold sout0_B_0
    have e := after_point c n (Nat.lt_of_succ_lt h)
    simp only [Nat.add_sub_cancel]
    rw [e, block_rows, coords_eq, running_succ]

/-! ### The array of distances -/

/-- The point that writes row `r` of a result. -/
def pointOf (r : Fin 5000) : Fin 25 := ⟨r.val / 200, by have := r.isLt; omega⟩
/-- The row within that point's block. -/
def rowIn (r : Fin 5000) : Fin 200 := ⟨r.val % 200, Nat.mod_lt _ (by decide)⟩

/-- The array of distances. -/
def dists (x : Vec F S15000x64 .f32) : Vec F S5000x15000 .f32 := fun i =>
  distBlock (rows x (pointOf (i 0))) (scratch x) (ix2 (n0 := 200) (n1 := 15000) (rowIn (i 0)) (i 1))

/-- The array of ranks. -/
def ranks (x : Vec F S15000x64 .f32) : Vec F S5000x1 .i32 := fun i =>
  rankBlock (coord (pointOf (i 0))) (rows x (pointOf (i 0))) (scratch x) (ix2 (n0 := 200) (n1 := 1) (rowIn (i 0)) (i 1))

/-- The point of a row given as block and row within it. -/
theorem pointOf_eq (t : Fin 25) (j : Fin 200) (r : Fin 5000) (h : r.val = 200 * t.val + j.val) : pointOf r = t :=
  Fin.ext (by have := j.isLt; show r.val / 200 = t.val; omega)
/-- The row within the block, likewise. -/
theorem rowIn_eq (t : Fin 25) (j : Fin 200) (r : Fin 5000) (h : r.val = 200 * t.val + j.val) : rowIn r = j :=
  Fin.ext (by have := j.isLt; show r.val % 200 = j.val; omega)

/-- Each point writes back its block of the array of distances. -/
theorem flushed_dists (c : Dev nD) (t : Fin cfg0.N) (_ : (cfg0.win 2).flush t = true) :
    (dats m 0 c).flushed 2 t = ((cfg0.win 2).blk t).view.read (Elt F) (dists (table m c)) := by
  show (cfg0.win 2).cut (grid0.coords t) ((dats m 0 c).after 2 t) = _
  rw [after0_2, after_point]
  funext j
  rw [View.read_apply]
  have h0 : (((cfg0.win 2).blk t).view.emb j 0).val = 200 * t.val + (j 0).val := by
    show win0_2.index t 0 * 200 + 1 * (j 0).val = _
    rw [(index_rows t).2.1]; omega
  have h1 : ((cfg0.win 2).blk t).view.emb j 1 = j 1 := Fin.ext (by show 0 * 15000 + 1 * (j 1).val = (j 1).val; omega)
  show distBlock _ _ j = distBlock (rows _ (pointOf (((cfg0.win 2).blk t).view.emb j 0))) _ (ix2 (n0 := 200) (n1 := 15000) (rowIn (((cfg0.win 2).blk t).view.emb j 0)) (((cfg0.win 2).blk t).view.emb j 1))
  rw [pointOf_eq ⟨t.val, lt25 t⟩ (j 0) _ h0, rowIn_eq ⟨t.val, lt25 t⟩ (j 0) _ h0, h1]
  exact congrArg _ (eq_ix2 (n0 := 200) (n1 := 15000) j)

/-- Each point writes back its block of the array of ranks. -/
theorem flushed_ranks (c : Dev nD) (t : Fin cfg0.N) (_ : (cfg0.win 3).flush t = true) :
    (dats m 0 c).flushed 3 t = ((cfg0.win 3).blk t).view.read (Elt F) (ranks (table m c)) := by
  show (cfg0.win 3).cut (grid0.coords t) ((dats m 0 c).after 3 t) = _
  rw [after0_3, after_point]
  funext j
  rw [View.read_apply]
  have h0 : (((cfg0.win 3).blk t).view.emb j 0).val = 200 * t.val + (j 0).val := by
    show win0_3.index t 0 * 200 + 1 * (j 0).val = _
    rw [(index_rows t).2.2]; omega
  have h1 : ((cfg0.win 3).blk t).view.emb j 1 = j 1 := Fin.ext (by show 0 * 1 + 1 * (j 1).val = (j 1).val; omega)
  show rankBlock _ _ _ j = rankBlock (coord (pointOf (((cfg0.win 3).blk t).view.emb j 0))) (rows _ (pointOf (((cfg0.win 3).blk t).view.emb j 0))) _ (ix2 (n0 := 200) (n1 := 1) (rowIn (((cfg0.win 3).blk t).view.emb j 0)) (((cfg0.win 3).blk t).view.emb j 1))
  rw [pointOf_eq ⟨t.val, lt25 t⟩ (j 0) _ h0, rowIn_eq ⟨t.val, lt25 t⟩ (j 0) _ h0, h1]
  exact congrArg _ (eq_ix2 (n0 := 200) (n1 := 1) j)

/-- The last point writes back its running sum. -/
theorem flushed_sum (c : Dev nD) (t : Fin cfg0.N) (hf : (cfg0.win 4).flush t = true) :
    (dats m 0 c).flushed 4 t = ((cfg0.win 4).blk t).view.read (Elt F) (running (table m c) 24 (by decide)) := by
  have h24 : t.val = 24 := by have := (flush0_4 t).mp hf; have := lt25 t; omega
  show (cfg0.win 4).cut (grid0.coords t) ((dats m 0 c).after 4 t) = _
  rw [after0_4, after_point]
  obtain ⟨n, hn⟩ := t
  obtain rfl : n = 24 := h24
  funext j
  rw [View.read_apply]
  show running _ 24 _ j = running _ 24 _ _
  congr 1
  funext a
  apply Fin.ext
  match a with
  | ⟨0, _⟩ => show (j 0).val = 0 * 1 + 1 * (j 0).val; omega
  | ⟨1, _⟩ => show (j 1).val = 0 * 1 + 1 * (j 1).val; omega

/-- The last point. -/
def lastPoint : Fin cfg0.N := ⟨24, by rw [show cfg0.N = 25 from N_0]; decide⟩

/-- The point that writes a row, among the grid's points. -/
def gridPoint (r : Fin 5000) : Fin cfg0.N := ⟨r.val / 200, by rw [show cfg0.N = 25 from N_0]; have := r.isLt; omega⟩

/-- When the grid is done the first result array holds the distances. -/
theorem final_dists (c : Dev nD) : (dats m 0 c).arrAt 2 cfg0.N = dists (table m c) :=
  (dats m 0 c).arrAt_eq_of_cover 2 (dists (table m c)) (flushed_dists m c) fun i =>
    ⟨gridPoint (i 0), flush0_2 _, by
      show i ∈ ((View.whole main_v0_0).slice (win0_2.rect (gridPoint (i 0)))).set
      rw [View.set_slice_whole, Rect.mem_set_unit]
      intro a
      have h0 : (i 0 : Nat) < 5000 := (i 0).isLt
      have h1 : (i 1 : Nat) < 15000 := (i 1).isLt
      match a with
      | ⟨0, _⟩ =>
        show win0_2.index (gridPoint (i 0)) 0 * 200 ≤ (i 0 : Nat) ∧ (i 0 : Nat) < win0_2.index (gridPoint (i 0)) 0 * 200 + 200
        rw [(index_rows _).2.1]
        show (i 0 : Nat) / 200 * 200 ≤ (i 0 : Nat) ∧ (i 0 : Nat) < (i 0 : Nat) / 200 * 200 + 200
        omega
      | ⟨1, _⟩ => show 0 * 15000 ≤ (i 1 : Nat) ∧ (i 1 : Nat) < 0 * 15000 + 15000; omega⟩

/-- When the grid is done the second result array holds the ranks. -/
theorem final_ranks (c : Dev nD) : (dats m 0 c).arrAt 3 cfg0.N = ranks (table m c) :=
  (dats m 0 c).arrAt_eq_of_cover 3 (ranks (table m c)) (flushed_ranks m c) fun i =>
    ⟨gridPoint (i 0), flush0_3 _, by
      show i ∈ ((View.whole main_call0_v0_1).slice (win0_3.rect (gridPoint (i 0)))).set
      rw [View.set_slice_whole, Rect.mem_set_unit]
      intro a
      have h0 : (i 0 : Nat) < 5000 := (i 0).isLt
      have h1 : (i 1 : Nat) < 1 := (i 1).isLt
      match a with
      | ⟨0, _⟩ =>
        show win0_3.index (gridPoint (i 0)) 0 * 200 ≤ (i 0 : Nat) ∧ (i 0 : Nat) < win0_3.index (gridPoint (i 0)) 0 * 200 + 200
        rw [(index_rows _).2.2]
        show (i 0 : Nat) / 200 * 200 ≤ (i 0 : Nat) ∧ (i 0 : Nat) < (i 0 : Nat) / 200 * 200 + 200
        omega
      | ⟨1, _⟩ => show 0 * 1 ≤ (i 1 : Nat) ∧ (i 1 : Nat) < 0 * 1 + 1; omega⟩

/-- When the grid is done the third result array holds the running sum of the last point. -/
theorem final_sum (c : Dev nD) : (dats m 0 c).arrAt 4 cfg0.N = running (table m c) 24 (by decide) :=
  (dats m 0 c).arrAt_eq_of_cover 4 (running (table m c) 24 (by decide)) (flushed_sum m c) fun i =>
    ⟨lastPoint, (flush0_4 _).mpr rfl, by
      show i ∈ ((View.whole main_call0_v0_2).slice (win0_4.rect lastPoint)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

end Cert.KernelIdeal.Arrays

end
-- ==== Proof.Distance.lean ====
/-
  The mathematics of the problem on real numbers, and the two ways its squared distance is computed on the extended reals.

  For real rows `a i` the squared distance is `∑ a i² + ∑ a j² - 2 ∑ a i a j`, cut below at the small positive constant
  both programs use. The kernel computes it as one product of 72-entry rows, the reference as three separate sums; on
  real entries the two agree, as do `s * rsqrt s` and `sqrt s` of the cut value.
-/
module

public import Idealize.ShloMosaic.PureOps.Ideal
public import Idealize.ShloMosaic.PureOps.Reduce
public import Idealize.ShloMosaic.Lib.Pointwise
public import Mathlib.Algebra.BigOperators.Fin
public import Mathlib.Tactic.Ring
public import Mathlib.Tactic.NormNum
public import Mathlib.Tactic.Linarith

@[expose] public section

set_option maxRecDepth 16384

noncomputable section

namespace Cert.Distance

open Idealize.ShloMosaic

/-- The constant the squared distances are cut at, as the programs write it. -/
abbrev cutWord : EReal := Ideal.ofBits .f32 0x2B8CBCCC#32

/-- The cut is a positive real number. -/
theorem cut_pos : ∃ e : ℝ, 0 < e ∧ cutWord = (e : EReal) := by
  refine ⟨_, ?_, by simp [cutWord, Ideal.ofBits, Ideal.ieee, -EReal.coe_mul]; rfl⟩
  norm_num

/-- The cut as a real number. -/
def cut : ℝ := Classical.choose cut_pos

theorem cut_gt : 0 < cut := (Classical.choose_spec cut_pos).1

theorem cut_eq : cutWord = (cut : EReal) := (Classical.choose_spec cut_pos).2

variable (a : Fin 15000 → Fin 64 → ℝ)

/-- The table `x` holds the real numbers `a`. -/
def Holds (x : Vec Ideal ⟨2, ![15000, 64]⟩ .f32) : Prop := ∀ i k, x (ix2 i k) = (a i k : EReal)

/-- The squared distance of rows `i` and `j`, expanded. -/
def sq (i j : Fin 15000) : ℝ := ∑ k, a i k * a i k + ∑ k, a j k * a j k - 2 * ∑ k, a i k * a j k

/-- The squared distance cut below. -/
def near (i j : Fin 15000) : ℝ := max (sq a i j) cut

theorem near_pos (i j : Fin 15000) : 0 < near a i j := lt_of_lt_of_le cut_gt (le_max_right _ _)

/-- The row of a query: every third row of the table. -/
def anchor (r : Fin 5000) : Fin 15000 := ⟨3 * r.val, by omega⟩

/-- The row of a query's positive: the one after the query's. -/
def positive (r : Fin 5000) : Fin 15000 := ⟨3 * r.val + 1, by omega⟩

/-- How many rows are strictly closer to query `r` than its positive. -/
def closer (r : Fin 5000) : Nat :=
  (Finset.univ.filter fun j => near a (anchor r) j < near a (anchor r) (positive r)).card

/-- The rank of query `r`'s positive as both programs store it: the count less one, a 32-bit word. -/
def rankWord (r : Fin 5000) : BitVec 32 := IntOp.subi (BitVec.ofNat 32 (closer a r)) 1#32

/-! ### Sums of real numbers among the extended reals -/

/-- A finite sum of reals read as extended reals is the real sum. -/
theorem coe_sum {n : Nat} (f : Fin n → ℝ) : ∑ k, (f k : EReal) = ((∑ k, f k : ℝ) : EReal) := by
  induction n with
  | zero => simp
  | succ n ih => rw [Fin.sum_univ_succ, Fin.sum_univ_succ, ih, EReal.coe_add]

/-- A sum of products of reals. -/
theorem coe_dot {n : Nat} (f g : Fin n → ℝ) : ∑ k, (f k : EReal) * (g k : EReal) = ((∑ k, f k * g k : ℝ) : EReal) := by
  rw [← coe_sum]; exact Finset.sum_congr rfl fun k _ => (EReal.coe_mul _ _).symm

/-- The larger of two reals. -/
theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-! ### The kernel's 72-entry rows -/

/-- A query's augmented row: `-2 q`, a one, the query's squared norm, zeros. -/
def queryRow (q : Fin 64 → EReal) (k : Fin 72) : EReal :=
  if h : k.val < 64 then Ideal.ofBits .f32 0xC0000000#32 * q ⟨k.val, h⟩
  else if k.val - 64 < 1 then 1
  else if k.val - 64 - 1 < 1 then ∑ c, q c * q c else 0

/-- A table row's augmented row: the row, its squared norm, a one, zeros. -/
def tableRow (e : Fin 64 → EReal) (k : Fin 72) : EReal :=
  if h : k.val < 64 then e ⟨k.val, h⟩
  else if k.val - 64 < 1 then ∑ c, e c * e c
  else if k.val - 64 - 1 < 1 then 1 else 0

theorem tableRow_column (e : Fin 64 → EReal) (k : Fin 72) (h : k.val < 64) : tableRow e k = e ⟨k.val, h⟩ := by
  rw [tableRow, dif_pos h]

theorem tableRow_norm (e : Fin 64 → EReal) (k : Fin 72) (h : k.val = 64) : tableRow e k = ∑ c, e c * e c := by
  rw [tableRow, dif_neg (by omega), if_pos (by omega)]

theorem tableRow_one (e : Fin 64 → EReal) (k : Fin 72) (h : k.val = 65) : tableRow e k = 1 := by
  rw [tableRow, dif_neg (by omega), if_neg (by omega), if_pos (by omega)]

theorem tableRow_zero (e : Fin 64 → EReal) (k : Fin 72) (h : 66 ≤ k.val) : tableRow e k = 0 := by
  rw [tableRow, dif_neg (by omega), if_neg (by omega), if_neg (by omega)]

theorem minus_two : Ideal.ofBits .f32 0xC0000000#32 = ((-2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The product of the augmented rows of two real rows is their expanded squared distance. -/
theorem rows_product (q e : Fin 64 → ℝ) :
    ∑ k, queryRow (fun c => (q c : EReal)) k * tableRow (fun c => (e c : EReal)) k
      = ((∑ k, q k * q k + ∑ k, e k * e k - 2 * ∑ k, q k * e k : ℝ) : EReal) := by
  rw [Fin.sum_univ_add (a := 64) (b := 8) (fun k : Fin (64 + 8) => queryRow (fun c => (q c : EReal)) k * tableRow (fun c => (e c : EReal)) k),
    Fin.sum_univ_eight]
  have hfirst : ∀ k : Fin 64, queryRow (fun c => (q c : EReal)) (Fin.castAdd 8 k) * tableRow (fun c => (e c : EReal)) (Fin.castAdd 8 k)
      = (((-2 * q k) : ℝ) : EReal) * (e k : EReal) := by
    intro k
    unfold queryRow tableRow
    rw [dif_pos (show (Fin.castAdd 8 k).val < 64 from k.isLt), dif_pos (show (Fin.castAdd 8 k).val < 64 from k.isLt), minus_two, EReal.coe_mul]
    rfl
  rw [Finset.sum_congr rfl fun k _ => hfirst k, coe_dot]
  simp only [queryRow, tableRow, coe_dot]
  norm_num [Fin.natAdd]
  simp only [← EReal.coe_neg, ← EReal.coe_add, ← EReal.coe_mul, ← EReal.coe_sub]
  congr 1
  rw [Finset.mul_sum]
  simp only [mul_assoc]
  ring

/-! ### From the cut square to the distance -/

/-- The product of a positive real and its reciprocal square root is its square root. -/
theorem mul_rsqrt (s : ℝ) (hs : 0 < s) : (s : EReal) * Ideal.rsqrt (s : EReal) = ((Real.sqrt s : ℝ) : EReal) := by
  rw [Ideal.rsqrt_coe, if_neg hs.not_gt, if_neg hs.ne', ← EReal.coe_mul]
  congr 1
  rw [← div_eq_mul_inv, Real.div_sqrt]

/-- The square root of a positive real. -/
theorem sqrt_coe (s : ℝ) (hs : 0 < s) : Ideal.sqrt (s : EReal) = ((Real.sqrt s : ℝ) : EReal) := by
  rw [Ideal.sqrt_coe, if_neg hs.not_gt]

/-- The reference first cuts at zero and then at the constant; the first cut changes nothing. -/
theorem cut_twice (s : ℝ) : max (max (s : EReal) 0) cutWord = ((max s cut : ℝ) : EReal) := by
  rw [cut_eq, ← EReal.coe_zero, coe_max, coe_max, max_assoc, max_eq_right cut_gt.le]

/-- Distances are ordered as their cut squares are. -/
theorem sqrt_lt (i j k : Fin 15000) :
    ((Real.sqrt (near a i j) : ℝ) : EReal) < ((Real.sqrt (near a i k) : ℝ) : EReal) ↔ near a i j < near a i k := by
  rw [EReal.coe_lt_coe_iff, Real.sqrt_lt_sqrt_iff (near_pos a i j).le]

/-! ### Counting in words -/

/-- Adding up ones over the indices where a condition holds counts them, as a word. -/
theorem fold_count {n : Nat} (p : Fin n → Prop) [DecidablePred p] :
    Finset.fold IntOp.addi (0#32) (fun x => if p x then 1#32 else 0#32) Finset.univ
      = BitVec.ofNat 32 (Finset.univ.filter p).card := by
  generalize (Finset.univ : Finset (Fin n)) = s
  induction s using Finset.induction with
  | empty => rfl
  | insert x s hx ih =>
    rw [Finset.fold_insert hx, ih, Finset.filter_insert]
    by_cases h : p x
    · rw [if_pos h, if_pos h, Finset.card_insert_of_notMem (fun hm => hx (Finset.mem_filter.mp hm).1), Nat.add_comm, BitVec.ofNat_add]
      rfl
    · rw [if_neg h, if_neg h]
      exact BitVec.zero_add _

end Cert.Distance

end
-- ==== Proof.Block.lean ====
/-
  One point of the kernel's grid on the extended reals, entry by entry, for a table of real numbers: the scratch, the
  cut squared distances of the point's queries, the distances, the ranks and the step of the running sum.
-/
module

public import proofs.«01_k».proof.Proof.Arrays
public import proofs.«01_k».proof.Proof.Distance

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Point Cert.KernelIdeal.Arrays Cert.Distance

/-! ### The augmented rows -/

/-- Row `r` of the augmented queries is the augmented row of the block's row `3 r`. -/
theorem query_entry (x1 : Vec Ideal S600x64 .f32) (r : Fin 200) (k : Fin 72) :
    k0_pay6 x1 (ix2 r k) = queryRow (fun c => x1 (ix2 (n0 := 600) ⟨r.val * 3, by omega⟩ c)) k := by
  pointwise [k0_pay6, queryRow]
  simp only [dite_eq_ite]

/-- A scratch row below 64 is the table's column. -/
theorem piece_columns (x : Vec Ideal S15000x64 .f32) (j : S64x15000.Idx) : k0_pay2 x j = x (ix2 (j 1) (j 0)) := by
  pointwise [k0_pay2, k0_pay1]

/-- The scratch row 64 is the table's squared row norms. -/
theorem piece_norms (x : Vec Ideal S15000x64 .f32) (j : S1x15000.Idx) :
    k0_pay3 x j = ∑ c, x (ix2 (j 1) c) * x (ix2 (j 1) c) := by
  pointwise [k0_pay3, k0_pay1]

/-- The scratch row 65 is ones. -/
theorem piece_ones (j : S1x15000.Idx) : k0_pay4 (F := Ideal) j = (1 : EReal) := by
  pointwise [k0_pay4]

/-- The scratch rows from 66 are zeros. -/
theorem piece_zeros (j : S6x15000.Idx) : k0_pay5 (F := Ideal) j = (0 : EReal) := by
  pointwise [k0_pay5]

/-- Column `j` of the scratch is the augmented row of the table's row `j`. -/
theorem scratch_entry (x : Vec Ideal S15000x64 .f32) (k : Fin 72) (j : Fin 15000) :
    scratch x (ix2 k j) = tableRow (fun c => x (ix2 (n0 := 15000) (n1 := 64) j c)) k := by
  unfold scratch
  refine View.canon_apply_of_pieces (fun y : S72x15000.Idx => tableRow (fun c => x (ix2 (n0 := 15000) (n1 := 64) (y 1) c)) (y 0))
    (scratchPieces x) ?_ (ix2 k j) ?_
  · intro p hp z
    unfold scratchPieces at hp
    simp only [List.mem_cons, List.not_mem_nil, or_false] at hp
    rcases hp with rfl | rfl | rfl | rfl
    · have h0 : ((Rect.unit (s := S72x15000) ![66, 0] S6x15000.size inb_S72x15000_S6x15000_66_0).emb z 0).val = 66 + 1 * (z 0).val := rfl
      exact (piece_zeros z).trans (tableRow_zero _ _ (le_of_le_of_eq (by omega) h0.symm)).symm
    · have h0 : ((Rect.unit (s := S72x15000) ![65, 0] S1x15000.size inb_S72x15000_S1x15000_65_0).emb z 0).val = 65 + 1 * (z 0).val := rfl
      have hz : (z 0).val < 1 := (z 0).isLt
      exact (piece_ones z).trans (tableRow_one _ _ (h0.trans (by omega))).symm
    · have h0 : ((Rect.unit (s := S72x15000) ![64, 0] S1x15000.size inb_S72x15000_S1x15000_64_0).emb z 0).val = 64 + 1 * (z 0).val := rfl
      have h1 : (Rect.unit (s := S72x15000) ![64, 0] S1x15000.size inb_S72x15000_S1x15000_64_0).emb z 1 = z 1 :=
        Fin.ext (show 0 + 1 * (z 1).val = (z 1).val by omega)
      have hz : (z 0).val < 1 := (z 0).isLt
      refine (piece_norms x z).trans (Eq.trans ?_ (tableRow_norm _ _ (h0.trans (by omega))).symm)
      rw [h1]
    · have h0 : ((Rect.unit (s := S72x15000) ![0, 0] S64x15000.size inb_S72x15000_S64x15000_0_0).emb z 0).val = 0 + 1 * (z 0).val := rfl
      have h1 : (Rect.unit (s := S72x15000) ![0, 0] S64x15000.size inb_S72x15000_S64x15000_0_0).emb z 1 = z 1 :=
        Fin.ext (show 0 + 1 * (z 1).val = (z 1).val by omega)
      have hz : (z 0).val < 64 := (z 0).isLt
      refine (piece_columns x z).trans (Eq.trans ?_ (tableRow_column _ _ (lt_of_eq_of_lt h0 (by omega))).symm)
      rw [h1]
      exact congrArg (fun c => x (ix2 (z 1) c)) (Fin.ext ((by omega : (z 0).val = 0 + 1 * (z 0).val).trans h0.symm))
  · have hk := k.isLt
    have hj := j.isLt
    unfold scratchPieces
    by_cases h1 : k.val < 64
    · refine ⟨⟨Rect.unit ![0, 0] S64x15000.size inb_S72x15000_S64x15000_0_0, k0_pay2 x⟩,
        List.mem_cons_of_mem _ (List.mem_cons_of_mem _ (List.mem_cons_of_mem _ List.mem_cons_self)), (Rect.mem_set_unit (inb := inb_S72x15000_S64x15000_0_0)).mpr fun d => ?_⟩
      match d with
      | ⟨0, _⟩ => exact ⟨Nat.zero_le _, by show k.val < 0 + 64; omega⟩
      | ⟨1, _⟩ => exact ⟨Nat.zero_le _, by show j.val < 0 + 15000; omega⟩
    · by_cases h2 : k.val = 64
      · refine ⟨_, List.mem_cons_of_mem _ (List.mem_cons_of_mem _ List.mem_cons_self), (Rect.mem_set_unit (inb := inb_S72x15000_S1x15000_64_0)).mpr fun d => ?_⟩
        match d with
        | ⟨0, _⟩ => exact ⟨by show 64 ≤ k.val; omega, by show k.val < 64 + 1; omega⟩
        | ⟨1, _⟩ => exact ⟨Nat.zero_le _, by show j.val < 0 + 15000; omega⟩
      · by_cases h3 : k.val = 65
        · refine ⟨_, List.mem_cons_of_mem _ List.mem_cons_self, (Rect.mem_set_unit (inb := inb_S72x15000_S1x15000_65_0)).mpr fun d => ?_⟩
          match d with
          | ⟨0, _⟩ => exact ⟨by show 65 ≤ k.val; omega, by show k.val < 65 + 1; omega⟩
          | ⟨1, _⟩ => exact ⟨Nat.zero_le _, by show j.val < 0 + 15000; omega⟩
        · refine ⟨_, List.mem_cons_self, (Rect.mem_set_unit (inb := inb_S72x15000_S6x15000_66_0)).mpr fun d => ?_⟩
          match d with
          | ⟨0, _⟩ => exact ⟨by show 66 ≤ k.val; omega, by show k.val < 66 + 6; omega⟩
          | ⟨1, _⟩ => exact ⟨Nat.zero_le _, by show j.val < 0 + 15000; omega⟩

/-- The cut product at an entry. -/
theorem product_entry (v : FVec Ideal S200x72 .f32) (s : Vec Ideal S72x15000 .f32) (r : Fin 200) (j : Fin 15000) :
    k0_pay10 v s (ix2 r j) = max (∑ k, v (ix2 r k) * s (ix2 k j)) cutWord := by
  pointwise [k0_pay10]

/-- The cut product with the point's own rows. -/
theorem own_entry (x1 : Vec Ideal S600x64 .f32) (r : Fin 200) (l : Fin 600) :
    k0_pay7 x1 x1 (ix2 r l) = max (∑ k, queryRow (fun c => x1 (ix2 (n0 := 600) ⟨r.val * 3, by omega⟩ c)) k
      * tableRow (fun c => x1 (ix2 l c)) k) cutWord := by
  pointwise [k0_pay7, tableRow]
  simp only [query_entry, dite_eq_ite]

/-- The query of row `r` of point `t`. -/
def query (t : Fin 25) (r : Fin 200) : Fin 5000 := ⟨200 * t.val + r.val, by omega⟩

variable (a : Fin 15000 → Fin 64 → ℝ) (x : Vec Ideal S15000x64 .f32) (hx : Holds a x) (t : Fin 25)
include hx

/-- Row `l` of point `t`'s block. -/
theorem rows_entry (l : Fin 600) (c : Fin 64) : rows x t (ix2 l c) = (a ⟨600 * t.val + l.val, by omega⟩ c : EReal) := by
  unfold rows
  exact hx _ _

/-- The block's row `3 r` is its query's row. -/
theorem anchor_entry (r : Fin 200) :
    (fun c : Fin 64 => rows x t (ix2 (n0 := 600) ⟨r.val * 3, by omega⟩ c)) = fun c => (a (anchor (query t r)) c : EReal) := by
  funext c
  rw [rows_entry a x hx]
  congr 2
  apply Fin.ext
  show 600 * t.val + r.val * 3 = 3 * (200 * t.val + r.val)
  omega

/-- The cut squared distance of the point's query `r` and the table's row `j`. -/
theorem near_entry (r : Fin 200) (j : Fin 15000) :
    k0_pay10 (k0_pay6 (rows x t)) (scratch x) (ix2 r j) = (near a (anchor (query t r)) j : EReal) := by
  rw [product_entry]
  simp only [query_entry, scratch_entry]
  rw [anchor_entry a x hx, show (fun c : Fin 64 => x (ix2 (n0 := 15000) (n1 := 64) j c)) = fun c => (a j c : EReal) from funext fun c => hx j c,
    rows_product, cut_eq, coe_max]
  rfl

/-- The cut squared distance of the point's query `r` and the block's row `l`. -/
theorem near_own (r : Fin 200) (l : Fin 600) :
    k0_pay7 (rows x t) (rows x t) (ix2 r l) = (near a (anchor (query t r)) ⟨600 * t.val + l.val, by omega⟩ : EReal) := by
  rw [own_entry, anchor_entry a x hx, show (fun c : Fin 64 => rows x t (ix2 l c)) = fun c => (a ⟨600 * t.val + l.val, by omega⟩ c : EReal) from
    funext fun c => rows_entry a x hx t l c, rows_product, cut_eq, coe_max]
  rfl

/-- The distance the point writes at row `r`, column `j`. -/
theorem dist_entry (r : Fin 200) (j : Fin 15000) :
    distBlock (rows x t) (scratch x) (ix2 r j) = ((Real.sqrt (near a (anchor (query t r)) j) : ℝ) : EReal) := by
  rw [← mul_rsqrt _ (near_pos a _ _), ← near_entry a x hx]
  unfold distBlock
  pointwise [k0_pay11]

omit hx in
/-- The two column words agree exactly at the positive's lane. -/
theorem lane_eq (r : Fin 200) (l : Fin 600) :
    k0_pay8 (coord t) (ix2 r l) = k0_pay9 (coord t) (ix2 r l) ↔ l.val = 3 * r.val + 1 := by
  have e : (coord t 0).val = t.val := rfl
  pointwise [k0_pay8, k0_pay9]
  rw [e]
  have hr := r.isLt
  have hl := l.isLt
  have ht := t.isLt
  rw [← BitVec.toNat_inj]
  simp only [IntOp.addi, IntOp.muli, Scalar.muli, BitVec.toNat_add, BitVec.toNat_mul, BitVec.toNat_ofNat]
  omega

omit hx in
/-- What is taken at a lane: the entry at the positive's lane, zero elsewhere. -/
theorem taken (r : Fin 200) (l : Fin 600) (v : EReal) :
    Scalar.select (IntOp.cmpi .eq (k0_pay8 (coord t) (ix2 r l)) (k0_pay9 (coord t) (ix2 r l))) v 0
      = if l.val = 3 * r.val + 1 then v else 0 := by
  have h := lane_eq t r l
  by_cases hl : l.val = 3 * r.val + 1
  · rw [if_pos hl, h.mpr hl]
    simp [Scalar.select, IntOp.cmpi]
  · rw [if_neg hl]
    have hne := fun e => hl (h.mp e)
    have hb : (k0_pay8 (coord t) (ix2 r l) == k0_pay9 (coord t) (ix2 r l)) = false := beq_eq_false_iff_ne.mpr hne
    simp [Scalar.select, IntOp.cmpi, hb]

/-- The rank the point writes at row `r`. -/
theorem rank_entry (r : Fin 200) :
    rankBlock (coord t) (rows x t) (scratch x) (ix2 r (0 : Fin 1)) = rankWord a (query t r) := by
  have hpos : ∑ l, Scalar.select (IntOp.cmpi .eq (k0_pay8 (coord t) (ix2 r l)) (k0_pay9 (coord t) (ix2 r l))) (k0_pay7 (rows x t) (rows x t) (ix2 r l)) (0 : EReal)
      = (near a (anchor (query t r)) (positive (query t r)) : EReal) := by
    rw [Finset.sum_eq_single (⟨3 * r.val + 1, by omega⟩ : Fin 600)]
    · rw [taken, if_pos rfl, near_own a x hx]
      congr 2
      apply Fin.ext
      show 600 * t.val + (3 * r.val + 1) = 3 * (200 * t.val + r.val) + 1
      omega
    · intro l _ hl
      rw [taken, if_neg fun e => hl (Fin.ext e)]
    · exact fun h => absurd (Finset.mem_univ _) h
  unfold rankBlock
  pointwise [k0_pay12]
  simp only [near_entry a x hx]
  rw [hpos]
  exact congrArg (fun w => IntOp.subi w 1#32) ((Finset.fold_congr fun j _ => if_congr EReal.coe_lt_coe_iff rfl rfl).trans
    (fold_count fun j => near a (anchor (query t r)) j < near a (anchor (query t r)) (positive (query t r))))

/-- The running sum after the point. -/
theorem sum_entry (acc : Vec Ideal S1x1 .f32) (j : S1x1.Idx) :
    sumStep (coord t) (rows x t) (scratch x) acc j = acc j + ∑ r : Fin 200, FloatOps.sitofp (F := Ideal) .f32 (rankWord a (query t r)) := by
  have h := rank_entry a x hx t
  unfold rankBlock at h
  unfold sumStep
  pointwise [k0_pay14]
  refine congrArg (acc j + ·) (Finset.sum_congr rfl fun r _ => ?_)
  rw [h r]
  exact Fin.sum_univ_one _

end Cert.KernelIdeal.Block

end
-- ==== Proof.KernelRun.lean ====
/-
  The kernel's run, read: its three results are the array of distances, the ranks of the blocks in one row, and the last
  running sum divided by 5000; its arguments end as they were launched.
-/
module

public import proofs.«01_k».proof.Proof.Arrays

@[expose] public section

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Point

variable {F : FTy → Type} [FloatOps F]
variable (m : (ℓ : Loc nD τ sig) → Buf (Elt F) ℓ) (ρ : Dev nD → PrngReg)

/-- The second result: the array of ranks as a vector. -/
def rankVec (x : Vec F S15000x64 .f32) : Vec F S5000 .i32 := shapeCast S5000 (ranks x) shapeCasts_S5000x1_S5000

/-- The third result: the sum of the ranks over 5000. -/
def meanRank (x : Vec F S15000x64 .f32) : Vec F S_ .f32 :=
  Host.divf (shapeCast S_ (running x 24 (by decide)) shapeCasts_S1x1_S_) (constant S_ .f32 0x459C4000#32)

/-- What the host finds in the second result array. -/
theorem exit_ranks (c : Dev nD) : Pipeline.withArrays (cfgs 0).spec c (V0 m c) (fun w => (dats m 0 c).arrAt w (cfgs 0).N) (Proc.devRef .tc main_call0_v0_1) = ranks (table m c) :=
  ((dats m 0 c).withArrays_arrAt sharedIn0 (V0 m c) (A_eq m c) 3).trans (final_ranks m c)

/-- What the host finds in the third result array. -/
theorem exit_sum (c : Dev nD) : Pipeline.withArrays (cfgs 0).spec c (V0 m c) (fun w => (dats m 0 c).arrAt w (cfgs 0).N) (Proc.devRef .tc main_call0_v0_2) = running (table m c) 24 (by decide) :=
  ((dats m 0 c).withArrays_arrAt sharedIn0 (V0 m c) (A_eq m c) 4).trans (final_sum m c)

/-- The host's reshape leaves the ranks in the second result. -/
theorem tail_ranks (c : Dev nD) : Pipeline.afterTail₀ cfgs (dats m) 0 (V0 m) [hostOps1] c main_v0_1 = rankVec (table m c) := by
  unfold Pipeline.afterTail₀
  have e := exit_ranks m c
  generalize Pipeline.withArrays (cfgs 0).spec c (V0 m c) (fun w => (dats m 0 c).arrAt w (cfgs 0).N) = W at e ⊢
  simp only [List.flatten_cons, List.flatten_nil, List.append_nil, hostOps1]
  after_results_simp
  rw [e]
  rfl

/-- The host's reshape and division leave the mean rank in the third result. -/
theorem tail_mean (c : Dev nD) : Pipeline.afterTail₀ cfgs (dats m) 0 (V0 m) [hostOps1] c main_v0_2 = meanRank (table m c) := by
  unfold Pipeline.afterTail₀
  have e := exit_sum m c
  generalize Pipeline.withArrays (cfgs 0).spec c (V0 m c) (fun w => (dats m 0 c).arrAt w (cfgs 0).N) = W at e ⊢
  simp only [List.flatten_cons, List.flatten_nil, List.append_nil, hostOps1]
  after_results_simp
  rw [e]
  rfl

/-- The run. -/
theorem run : θ_run defs (onTc (τ := τ) (main (F := F))) ⟨m, fun _ => 0, ρ⟩ fun r => ∀ c : Dev nD,
      r.2.mem ((c : Thread nD τ).loc main_v0_0) = dists (table m c)
      ∧ r.2.mem ((c : Thread nD τ).loc main_v0_1) = rankVec (table m c)
      ∧ r.2.mem ((c : Thread nD τ).loc main_v0_2) = meanRank (table m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 2).trans (final_dists m c),
      ((h c).2 main_v0_1 (Pipeline.mem_restRefs_of main_v0_1 (by decide) (by decide))).trans (tail_ranks m c),
      ((h c).2 main_v0_2 (Pipeline.mem_restRefs_of main_v0_2 (by decide) (by decide))).trans (tail_mean m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Arrays

end
-- ==== Proof.Order.lean ====
/-
  Sorting positions by a key, and sorting the sorted positions again: the second sort gives each position its place in
  the first, and that place is the number of positions with a smaller key as soon as no earlier position has the same key.
-/
module

public import Idealize.ShloMosaic.Lib.SortFacts
public import Mathlib.Data.Fintype.Card
public import Mathlib.Order.Interval.Finset.Fin

@[expose] public section

namespace Cert.Order

open Idealize.ShloMosaic

section Lists
variable {ι α : Type} [LinearOrder α] (G : ι → α) (P : ι → ι → Prop)

/-- "Before" in a stable sort by ascending `G`: a smaller key, or the same key and earlier in the given order `P`. -/
def Before (a b : ι) : Prop := G a < G b ∨ (G a = G b ∧ P a b)

/-- Inserting an element that precedes all others in the given order keeps a list sorted in this sense. -/
theorem insert_sorted (a : ι) (l : List ι) (ha : ∀ b ∈ l, P a b) (hl : l.Pairwise (Before G P)) :
    (insertBefore (fun x y => decide (G x < G y)) a l).Pairwise (Before G P) := by
  induction l with
  | nil => exact List.pairwise_singleton _ _
  | cons b l ih =>
    obtain ⟨hb, hl'⟩ := List.pairwise_cons.mp hl
    unfold insertBefore
    split
    · next h =>
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl (of_decide_eq_true h)
      · exact hb x hx'
    · next h =>
      have hab : G a ≤ G b := le_of_not_gt fun hlt => h (decide_eq_true hlt)
      refine List.pairwise_cons.mpr ⟨fun x hx => ?_, hl⟩
      have hle : G a ≤ G x := by
        rcases List.mem_cons.mp hx with rfl | hx'
        · exact hab
        · rcases hb x hx' with h1 | ⟨h1, -⟩
          · exact hab.trans h1.le
          · exact hab.trans h1.le
      rcases hle.lt_or_eq with h1 | h1
      · exact Or.inl h1
      · exact Or.inr ⟨h1, ha x hx⟩

/-- The stable sort leaves a list sorted in this sense. -/
theorem sort_sorted (l : List ι) (hl : l.Pairwise P) : (stableSort (fun x y => decide (G x < G y)) l).Pairwise (Before G P) := by
  induction l with
  | nil => exact List.Pairwise.nil
  | cons a l ih =>
    obtain ⟨ha, hl'⟩ := List.pairwise_cons.mp hl
    unfold stableSort
    exact insert_sorted G P a _ (fun b hb => ha b ((perm_stableSort _ l).mem_iff.mp hb)) (ih hl')

end Lists

variable {n : Nat} {α : Type} [LinearOrder α]

/-- The positions of `G` in ascending order, equal keys in the order of their positions (`argsort`). -/
def argsort (G : Fin n → α) : Fin n → Fin n := sortedFrom fun x y => decide (G x < G y)

/-- Of two places of the sorted order the first holds the smaller key, or the same key at an earlier position. -/
theorem argsort_before (G : Fin n → α) (i j : Fin n) (h : i < j) :
    Before G (fun a b => a < b) (argsort G i) (argsort G j) := by
  have hp : ∀ a b : Fin (sortPositions n fun x y => decide (G x < G y)).length, a < b →
      Before G (fun a b => a < b) ((sortPositions n fun x y => decide (G x < G y)).get a) ((sortPositions n fun x y => decide (G x < G y)).get b) :=
    List.pairwise_iff_get.mp (sort_sorted G _ _ (List.pairwise_lt_finRange n))
  unfold argsort sortedFrom
  exact hp _ _ (by simp only [Fin.lt_def, Fin.val_cast]; exact h)

/-- The place of position `p` is the number of positions with a smaller key, if no earlier position has its key. -/
theorem place_eq_count (G : Fin n → α) (p r : Fin n) (hp : ∀ j, j < p → G j ≠ G p) (hr : argsort G r = p) :
    r.val = (Finset.univ.filter fun j => G j < G p).card := by
  have hiff : ∀ a : Fin n, a < r ↔ G (argsort G a) < G p := by
    intro a
    constructor
    · intro h
      rcases argsort_before G a r h with h1 | ⟨h1, h2⟩
      · rwa [hr] at h1
      · rw [hr] at h1 h2
        exact absurd h1 (hp _ h2)
    · intro h
      by_contra hn
      rcases (not_lt.mp hn).lt_or_eq with h1 | h1
      · rcases argsort_before G r a h1 with h2 | ⟨h2, -⟩
        · rw [hr] at h2; exact absurd h (not_lt.mpr h2.le)
        · rw [hr] at h2; exact absurd h (not_lt.mpr h2.le)
      · subst h1; rw [hr] at h; exact lt_irrefl _ h
  have hcard : (Finset.univ.filter fun a : Fin n => a < r).card = r.val := by
    have : (Finset.univ.filter fun a : Fin n => a < r) = Finset.Iio r := by ext a; simp
    rw [this, Fin.card_Iio]
  rw [← hcard, Finset.filter_congr fun a _ => hiff a]
  exact Finset.card_bij (fun a _ => argsort G a) (by simp) (fun a _ b _ h => sortedFrom_injective _ h)
    (fun b hb => by
      obtain ⟨a, ha⟩ := sortedFrom_surjective (fun x y => decide (G x < G y)) b
      exact ⟨a, Finset.mem_filter.mpr ⟨Finset.mem_univ _, by
        have h := (Finset.mem_filter.mp hb).2
        rwa [← ha] at h⟩, ha⟩)

/-- Sorting the sorted positions undoes the sort: its entry at `q` is the place of `q`. -/
theorem argsort_argsort (G : Fin n → α) (q : Fin n) : argsort G (argsort (argsort G) q) = q := by
  have h := place_eq_count (argsort G) (argsort (argsort G) q) q
    (fun j hj e => absurd (sortedFrom_injective _ e) hj.ne) rfl
  generalize argsort (argsort G) q = t at h ⊢
  apply Fin.ext
  rw [h]
  have : (Finset.univ.filter fun j => argsort G j < argsort G t).card = (Finset.univ.filter fun a : Fin n => a < argsort G t).card :=
    Finset.card_bij (fun a _ => argsort G a) (by simp) (fun a _ b _ h => sortedFrom_injective _ h)
      (fun b hb => by
        obtain ⟨a, ha⟩ := sortedFrom_surjective (fun x y => decide (G x < G y)) b
        exact ⟨a, Finset.mem_filter.mpr ⟨Finset.mem_univ _, by
        have h := (Finset.mem_filter.mp hb).2
        rwa [← ha] at h⟩, ha⟩)
  rw [this, show (Finset.univ.filter fun a : Fin n => a < argsort G t) = Finset.Iio (argsort G t) from by ext a; simp, Fin.card_Iio]

/-- The entry at `p` of the sort of the sort is the number of positions with a smaller key, if no earlier position has
    the key of `p`. -/
theorem rank_eq_count (G : Fin n → α) (p : Fin n) (hp : ∀ j, j < p → G j ≠ G p) :
    (argsort (argsort G) p).val = (Finset.univ.filter fun j => G j < G p).card :=
  place_eq_count G p _ hp (argsort_argsort G p)

end Cert.Order
-- ==== Proof.RefValue.lean ====
/-
  What the reference computes on the extended reals, entry by entry, for a table of real numbers: the distances, and the
  rank of a query's positive through its two sorts, where no earlier row of the table is exactly as far as the positive.
-/
module

public import proofs.«01_k».proof.Proof.Gen.ReferenceIdeal.Read
public import proofs.«01_k».proof.Proof.Distance
public import proofs.«01_k».proof.Proof.Order
public import Idealize.ShloMosaic.Lib.Tactic.WordOmega
public import Idealize.ShloMosaic.Lib.StableHlo.Predicate

@[expose] public section

set_option maxRecDepth 16384

noncomputable section

open Idealize.ShloMosaic Idealize.ShloMosaic.TcCoe Idealize.SL.Sem

namespace Cert.ReferenceIdeal.Rank

open Cert.ReferenceIdeal Cert.ReferenceIdeal.Gen Cert.ReferenceIdeal.Read Cert.Distance Cert.Order

/-! ### The distances -/

section Distances
variable (a : Fin 15000 → Fin 64 → ℝ) (x : Vec Ideal S15000x64 .f32) (hx : Holds a x)
include hx

/-- The distance at query `i` and row `j`. -/
theorem dist_entry (i : Fin 5000) (j : Fin 15000) :
    val_main_v19 x (ix2 i j) = ((Real.sqrt (near a (anchor i) j) : ℝ) : EReal) := by
  have h : val_main_v19 x (ix2 i j) = Ideal.sqrt (max (max
      (∑ k, x (ix2 (anchor i) k) * x (ix2 (anchor i) k) + ∑ k, x (ix2 j k) * x (ix2 j k)
        - Ideal.ofBits .f32 0x40000000#32 * ∑ k, x (ix2 (anchor i) k) * x (ix2 j k)) 0) cutWord) := by
    pointwise [val_main_v19, val_main_v18, val_main_v17, val_main_v16, val_main_v15, val_main_v14, val_main_v13, val_main_v12,
      val_main_v11, val_main_v10, val_main_v9, val_main_v8, val_main_v7, val_main_v6, val_main_v5, val_main_v4, val_main_v3,
      val_main_v2, val_main_v1, val_main_v0, val_main_cst, val_main_cst_0, val_main_cst_1, val_main_cst_2, val_main_cst_3]
    rfl
  have hxi : ∀ i k, x (ix2 i k) = (a i k : EReal) := hx
  rw [h]
  simp only [hxi, coe_dot]
  rw [two, ← EReal.coe_add, ← EReal.coe_mul, ← EReal.coe_sub, cut_twice]
  exact sqrt_coe _ (near_pos a (anchor i) j)

end Distances

/-! ### The sorts -/

/-- A sort key is the entry itself: on the extended reals no entry differs from itself, and zero has one sign. -/
theorem key_self (l c : EReal) :
    Scalar.select (FloatOps.cmpf (F := Ideal) (φ := .f32) .une l l) c
      (Scalar.select (FloatOps.cmpf (F := Ideal) (φ := .f32) .oeq l (0 : EReal)) 0 l) = l := by
  rw [Ideal.cmpf_def, Ideal.cmpf_def]
  simp only [Scalar.select, Ideal.cmp, ne_eq, not_true_eq_false, decide_false]
  rw [if_neg (by decide)]
  by_cases h : l = 0
  · simp [h]
  · simp [h]

/-- The comparator of the sort of distances is the order of its keys. -/
theorem compare_keys (l r : EReal × BitVec 32) :
    (comparator_f32_i32_d1 (F := Ideal) l r == 1#1) = decide (l.1 < r.1) := by
  unfold comparator_f32_i32_d1
  simp only [Ideal.ofBits_def, Ideal.ofBits_zero_f32, key_self]
  rw [Ideal.cmpfTotal_def]
  show (BitVec.ofBool (decide (l.1 < r.1)) == 1#1) = decide (l.1 < r.1)
  cases decide (l.1 < r.1) <;> rfl

/-- The comparator of the sort of positions is the order of its keys, below `2^31`. -/
theorem compare_positions (p q : Fin 15000) (u v : BitVec 32) :
    (comparator_i32_i32_d1 (BitVec.ofNat 32 p.val, u) (BitVec.ofNat 32 q.val, v) == 1#1) = decide (p < q) := by
  have hp := p.isLt
  have hq := q.isLt
  unfold comparator_i32_i32_d1
  simp only [IntOp.cmpi, BitVec.slt, StableHlo.Predicate.toInt_ofNat_small _ (show p.val < 2 ^ 31 by omega),
    StableHlo.Predicate.toInt_ofNat_small _ (show q.val < 2 ^ 31 by omega)]
  by_cases h : p < q
  · simp [h]
  · simp [h]

/-- A sort of two arrays along the rows moves each row's entries by the stable order of the row. -/
theorem row_sort {α β : Type} (cmp : α × β → α × β → BitVec 1) (X : S5000x15000.Idx → α) (Y : S5000x15000.Idx → β)
    (i : Fin 5000) (k : Fin 15000) :
    (Host.sort2 S5000x15000 1 cmp X Y).2 (ix2 i k)
      = Y (ix2 i (sortedFrom (fun k k' => cmp (X (ix2 i k), Y (ix2 i k)) (X (ix2 i k'), Y (ix2 i k')) == 1#1) k)) := by
  have along : ∀ k' : Fin 15000, (ix2 i k : S5000x15000.Idx).along (1 : Fin 2) k' = ix2 i k' := by
    intro k'
    funext d
    match d with
    | ⟨0, _⟩ => rfl
    | ⟨1, _⟩ => rfl
  unfold Host.sort2
  rw [dif_pos (by decide)]
  show Y ((ix2 i k : S5000x15000.Idx).along (1 : Fin 2) (sortedFrom (fun k1 k' : Fin 15000 => cmp (X ((ix2 i k : S5000x15000.Idx).along (1 : Fin 2) k1), Y ((ix2 i k : S5000x15000.Idx).along (1 : Fin 2) k1))
    (X ((ix2 i k : S5000x15000.Idx).along (1 : Fin 2) k'), Y ((ix2 i k : S5000x15000.Idx).along (1 : Fin 2) k')) == 1#1) k)) = _
  simp only [along]
  exact congrArg Y (along _)

/-- Query `i`'s distances to the rows, as the reference computes them. -/
def rowDist (x : Vec Ideal S15000x64 .f32) (i : Fin 5000) (j : Fin 15000) : EReal := val_main_v19 x (ix2 i j)

/-- The first sort leaves the argsort of the distances. -/
theorem first_sort (x : Vec Ideal S15000x64 .f32) (i : Fin 5000) (k : Fin 15000) :
    val_main_v20 x (ix2 i k) = BitVec.ofNat 32 (argsort (rowDist x i) k).val := by
  unfold val_main_v20
  rw [row_sort, val_main_call0_v0_apply]
  simp only [compare_keys]
  rfl

/-- The second sort leaves the argsort of the argsort. -/
theorem second_sort (x : Vec Ideal S15000x64 .f32) (i : Fin 5000) (k : Fin 15000) :
    val_main_v21 x (ix2 i k) = BitVec.ofNat 32 (argsort (argsort (rowDist x i)) k).val := by
  unfold val_main_v21
  rw [row_sort, val_main_call1_v0_apply]
  simp only [first_sort, compare_positions]
  rfl

/-! ### The entries taken -/

/-- A gather by pairs of indices takes the entry the pair names. -/
theorem gather_pair {α : Type} (X : S5000x15000.Idx → α) (idx : IVec S5000x2 32) (i : Fin 5000) (p : Fin 15000)
    (h0 : idx (ix2 i (0 : Fin 2)) = BitVec.ofNat 32 i.val) (h1 : idx (ix2 i (1 : Fin 2)) = BitVec.ofNat 32 p.val) :
    Host.gather gather_S5000x15000_S5000x2_S5000_n_01_n_n_01_1_11 X idx (ix1 i) = X (ix2 i p) := by
  unfold Host.gather
  refine congrArg X (funext fun d => Fin.ext ?_)
  have hi := i.isLt
  have hp := p.isLt
  show GatherDims.start gather_S5000x15000_S5000x2_S5000_n_01_n_n_01_1_11 (ix1 i) idx d
    + GatherDims.batchCoord gather_S5000x15000_S5000x2_S5000_n_01_n_n_01_1_11 (ix1 i) d
    + GatherDims.offCoord gather_S5000x15000_S5000x2_S5000_n_01_n_n_01_1_11 (ix1 i) d = _
  have hmem : d ∈ ([0, 1] : List (Fin 2)) := by
    match d with
    | ⟨0, _⟩ => exact List.mem_cons_self
    | ⟨1, _⟩ => exact List.mem_cons_of_mem _ List.mem_cons_self
  rw [GatherDims.batchCoord_eq_zero _ _ _ (fun h => by simp [gather_S5000x15000_S5000x2_S5000_n_01_n_n_01_1_11] at h),
    GatherDims.offCoord_eq_zero _ _ _ (fun h => ((GatherDims.mem_sKept _ _).mp h).1 hmem)]
  unfold GatherDims.start
  rw [dif_pos (show d ∈ gather_S5000x15000_S5000x2_S5000_n_01_n_n_01_1_11.startIndexMap from hmem)]
  match d, hmem with
  | ⟨0, _⟩, hm =>
    have hsi : GatherDims.siIdx gather_S5000x15000_S5000x2_S5000_n_01_n_n_01_1_11 (ix1 i) ⟨List.idxOf (0 : Fin 2) [0, 1], List.idxOf_lt_length_iff.2 hm⟩ = ix2 i (0 : Fin 2) := by
      funext b; refine Fin.ext ?_
      match b with
      | ⟨0, _⟩ => rfl
      | ⟨1, _⟩ => rfl
    show min (idx (GatherDims.siIdx gather_S5000x15000_S5000x2_S5000_n_01_n_n_01_1_11 (ix1 i) ⟨List.idxOf (0 : Fin 2) [0, 1], List.idxOf_lt_length_iff.2 hm⟩)).toInt.toNat (5000 - 1) + 0 + 0 = i.val
    rw [hsi, h0, StableHlo.Predicate.toInt_ofNat_small _ (by omega)]
    omega
  | ⟨1, _⟩, hm =>
    have hsi : GatherDims.siIdx gather_S5000x15000_S5000x2_S5000_n_01_n_n_01_1_11 (ix1 i) ⟨List.idxOf (1 : Fin 2) [0, 1], List.idxOf_lt_length_iff.2 hm⟩ = ix2 i (1 : Fin 2) := by
      funext b; refine Fin.ext ?_
      match b with
      | ⟨0, _⟩ => rfl
      | ⟨1, _⟩ => rfl
    show min (idx (GatherDims.siIdx gather_S5000x15000_S5000x2_S5000_n_01_n_n_01_1_11 (ix1 i) ⟨List.idxOf (1 : Fin 2) [0, 1], List.idxOf_lt_length_iff.2 hm⟩)).toInt.toNat (15000 - 1) + 0 + 0 = p.val
    rw [hsi, h1, StableHlo.Predicate.toInt_ofNat_small _ (by omega)]
    omega

/-- The first index of a pair is the query. -/
theorem pair_query (i : Fin 5000) : val_main_v39 (F := Ideal) (ix2 i (0 : Fin 2)) = BitVec.ofNat 32 i.val := by
  pointwise [val_main_v39, val_main_v38, val_main_v37, val_main_v31, val_main_v30, val_main_v29, val_main_v28, val_main_v27, val_main_v22, val_main_c_5, val_main_c_6]
  have hi := i.isLt
  word_omega

/-- The second index of a pair is the query's positive. -/
theorem pair_positive (i : Fin 5000) : val_main_v39 (F := Ideal) (ix2 i (1 : Fin 2)) = BitVec.ofNat 32 (positive i).val := by
  pointwise [val_main_v39, val_main_v38, val_main_v37, val_main_v36, val_main_v35, val_main_v34, val_main_v33, val_main_v32, val_main_v26, val_main_v25, val_main_v24, val_main_v23, val_main_v22, val_main_c, val_main_c_4, val_main_c_7, val_main_c_8]
  have hi := i.isLt
  have hw : IntOp.addi (IntOp.muli (BitVec.ofNat 32 i.val) 3#32) 1#32 = BitVec.ofNat 32 (3 * i.val + 1) := by
    rw [← BitVec.toNat_inj]
    simp only [IntOp.addi, IntOp.muli, BitVec.toNat_add, BitVec.toNat_mul, BitVec.toNat_ofNat]
    omega
  rw [hw]
  show _ = BitVec.ofNat 32 (3 * i.val + 1)
  word_omega

/-- An array gathered by the pairs: each query's entry at its positive. -/
theorem gather_positive {α : Type} (X : S5000x15000.Idx → α) (i : Fin 5000) :
    Host.gather gather_S5000x15000_S5000x2_S5000_n_01_n_n_01_1_11 X (val_main_v39 (F := Ideal)) (ix1 i) = X (ix2 i (positive i)) :=
  gather_pair X _ i (positive i) (pair_query i) (pair_positive i)

/-! ### The ranks -/

/-- No earlier row is exactly as far from query `i` as its positive. -/
def Untied (x : Vec Ideal S15000x64 .f32) (i : Fin 5000) : Prop :=
  ∀ j : Fin 15000, j < positive i → rowDist x i j ≠ rowDist x i (positive i)

/-- The rank at an untied query. -/
theorem rank_entry (a : Fin 15000 → Fin 64 → ℝ) (x : Vec Ideal S15000x64 .f32) (hx : Holds a x) (i : Fin 5000) (h : Untied x i) :
    val_main_v42 x (ix1 i) = rankWord a i := by
  have hc : (argsort (argsort (rowDist x i)) (positive i)).val = closer a i := by
    rw [rank_eq_count _ _ h]
    unfold closer rowDist
    refine congrArg Finset.card (Finset.filter_congr fun j _ => ?_)
    rw [dist_entry a x hx, dist_entry a x hx, sqrt_lt]
  rw [val_main_v42_apply]
  unfold val_main_v40
  rw [gather_positive, second_sort, hc, val_main_v41_apply]
  rfl

/-- The mean rank, of the ranks. -/
theorem mean_entry (x : Vec Ideal S15000x64 .f32) (i : S_.Idx) :
    val_main_v45 x i = Ideal.div (∑ r : Fin 5000, FloatOps.sitofp (F := Ideal) .f32 (val_main_v42 x (ix1 r))) (Ideal.ofBits .f32 0x459C4000#32) := by
  pointwise [val_main_v45, val_main_v44, val_main_v43, val_main_cst_10, val_main_cst_11]

end Cert.ReferenceIdeal.Rank

end
-- ==== Proof.Equation.lean ====
/-
  The kernel's three results against the reference's on a table of real numbers: the distances are the same at every
  index, the rank of a query is the same when the query is untied, and the mean rank is the same when every query is.
-/
module

public import proofs.«01_k».proof.Proof.Block
public import proofs.«01_k».proof.Proof.KernelRun
public import proofs.«01_k».proof.Proof.RefValue

@[expose] public section

set_option maxRecDepth 16384

noncomputable section

open Idealize.ShloMosaic Idealize.ShloMosaic.TcCoe Idealize.SL.Sem

namespace Cert.Equation

open Cert.Distance
open Cert.KernelIdeal Cert.KernelIdeal.Gen Cert.KernelIdeal.Arrays Cert.KernelIdeal.Point Cert.KernelIdeal.Block
open Cert.ReferenceIdeal.Rank (Untied)
open Cert.ReferenceIdeal.Read (val_main_v19 val_main_v42 val_main_v45)

variable (a : Fin 15000 → Fin 64 → ℝ) (x : Vec Ideal S15000x64 .f32) (hx : Holds a x)

/-- A query is the row of its point's block. -/
theorem query_of (r : Fin 5000) : query (pointOf r) (rowIn r) = r :=
  Fin.ext (by show 200 * (r.val / 200) + r.val % 200 = r.val; omega)

include hx

/-- The distances agree. -/
theorem dists_eq : dists x = val_main_v19 x := by
  have key : ∀ (r : Fin 5000) (j : Fin 15000), dists x (ix2 r j) = val_main_v19 x (ix2 r j) := by
    intro r j
    rw [Cert.ReferenceIdeal.Rank.dist_entry a x hx]
    refine (dist_entry a x hx (pointOf r) (rowIn r) j).trans ?_
    rw [query_of]
  funext i
  exact (congrArg _ (eq_ix2 (n0 := 5000) (n1 := 15000) i)).trans
    ((key (i 0) (i 1)).trans (congrArg _ (eq_ix2 (n0 := 5000) (n1 := 15000) i).symm))

/-- The kernel's rank of a query is the word of its count. -/
theorem rankVec_entry (i : Fin 5000) : rankVec x (ix1 i) = rankWord a i := by
  unfold rankVec
  pointwise
  refine (rank_entry a x hx (pointOf i) (rowIn i)).trans ?_
  rw [query_of]

/-- The rank of an untied query agrees. -/
theorem rank_eq (i : Fin 5000) (h : Untied x i) : rankVec x (ix1 i) = val_main_v42 x (ix1 i) := by
  rw [rankVec_entry a x hx, Cert.ReferenceIdeal.Rank.rank_entry a x hx i h]

/-- The running sum after a point is the sum of the ranks of every row up to that point. -/
theorem running_eq (j : S1x1.Idx) : ∀ (n : ℕ) (h : n < 25), running x n h j =
    ∑ t : Fin (n + 1), ∑ r : Fin 200, FloatOps.sitofp (F := Ideal) .f32 (rankWord a (query ⟨t.val, by omega⟩ r))
  | 0, h => by
    have e : (k0_pay13 (F := Ideal)) j = (0 : EReal) := by
      unfold k0_pay13
      pointwise
    show sumStep _ _ _ k0_pay13 j = _
    rw [sum_entry a x hx, e, zero_add, Fin.sum_univ_one]
    rfl
  | n + 1, h => by
    rw [running_succ, sum_entry a x hx, running_eq j n (Nat.lt_of_succ_lt h), Fin.sum_univ_castSucc (n := n + 1)]
    rfl

omit hx in
/-- A sum over the points and the rows of each is the sum over the queries. -/
theorem sum_queries (f : Fin 5000 → EReal) : ∑ t : Fin 25, ∑ r : Fin 200, f (query t r) = ∑ i : Fin 5000, f i := by
  rw [← Finset.sum_product']
  refine Finset.sum_bij' (fun p _ => query p.1 p.2) (fun i _ => (pointOf i, rowIn i)) ?_ ?_ ?_ ?_ ?_
  · intro p _; exact Finset.mem_univ _
  · intro i _; exact Finset.mem_univ _
  · intro p _; exact Prod.ext (pointOf_eq p.1 p.2 _ rfl) (rowIn_eq p.1 p.2 _ rfl)
  · intro i _; exact query_of i
  · intro p _; rfl

/-- The mean rank agrees when every query is untied. -/
theorem mean_eq (h : ∀ i, Untied x i) : meanRank x = val_main_v45 x := by
  funext i
  rw [Cert.ReferenceIdeal.Rank.mean_entry]
  unfold meanRank
  pointwise
  rw [running_eq a x hx]
  refine congrArg (fun s => Ideal.div s _) ?_
  refine (sum_queries fun i => FloatOps.sitofp (F := Ideal) .f32 (rankWord a i)).trans ?_
  exact Finset.sum_congr rfl fun r _ => by rw [Cert.ReferenceIdeal.Rank.rank_entry a x hx r (h r)]

end Cert.Equation

end
-- ==== Proof.Facts.lean ====
/-
  The shapes of the two preconditions and of the mask fit their operations: every side condition they state, by computation.
-/
module

public import proofs.«01_k».proof.Pre_finite
public import proofs.«01_k».proof.Pre_finite_untied
public import proofs.«01_k».proof.On_without_ties
public import Idealize.ShloMosaic.Lib.Decide

@[expose] public section

namespace Cert.Proof

open Idealize.ShloMosaic

/-- The side conditions of the precondition `finite`. -/
instance finite_facts : Cert.Pre_finite.Facts := by constructor; decide

/-- The side conditions of the precondition `finite_untied`. -/
instance finite_untied_facts : Cert.Pre_finite_untied.Facts := by constructor <;> decide

/-- The side conditions of the mask `without_ties`. -/
instance without_ties_facts : Cert.On_without_ties.Facts := by constructor <;> decide

end Cert.Proof
-- ==== Proof.Predicates.lean ====
/-
  What the two preconditions and the mask say of a table, on the extended reals: every entry is a real number; no row
  before a query's positive is exactly as far from the query as the positive is.
-/
module

public import proofs.«01_k».proof.Proof.Facts
public import proofs.«01_k».proof.Proof.RefValue

@[expose] public section

set_option maxRecDepth 16384

noncomputable section

open Idealize.ShloMosaic Idealize.ShloMosaic.TcCoe Idealize.SL.Sem

namespace Cert.Predicates

open Cert.Distance Cert.ReferenceIdeal.Rank Cert.ReferenceIdeal.Read

/-! ### Conjunctions of bits -/

/-- A conjunction of bits, from one, is one exactly when every bit is one. -/
theorem fold_and {ι : Type} (s : Finset ι) (f : ι → BitVec 1) :
    s.fold IntOp.andi (1#1) f = 1#1 ↔ ∀ i ∈ s, f i = 1#1 := by
  classical
  induction s using Finset.induction with
  | empty => simp
  | insert x s hx ih =>
    rw [Finset.fold_insert hx]
    have key : ∀ u v : BitVec 1, IntOp.andi u v = 1#1 ↔ u = 1#1 ∧ v = 1#1 := by decide
    rw [key, ih]
    simp

/-! ### Finite tables -/

/-- The word both predicates compare with is infinity. -/
theorem infinity_word : Ideal.ofBits .f32 0x7F800000#32 = (⊤ : EReal) := by
  simp [Ideal.ofBits, Ideal.ieee]

/-- An extended real whose absolute value is below infinity is a real number. -/
theorem real_of_abs_lt (v : EReal) (h : FloatOps.cmpf (F := Ideal) (φ := .f32) .olt (max v (-v)) (⊤ : EReal) = 1#1) :
    ((v.toReal : ℝ) : EReal) = v := by
  have hlt : max v (-v) < ⊤ := by
    by_contra hn
    rw [Ideal.cmpf_def] at h
    simp [Ideal.cmp, hn] at h
  refine EReal.coe_toReal (fun e => ?_) (fun e => ?_)
  · rw [e] at hlt; simp at hlt
  · rw [e] at hlt; simp at hlt

/-- The finite bits of a table. -/
def finiteBits {F : FTy → Type} [FloatOps F] (x : FVec F Cert.Pre_finite.S15000x64 .f32) : IVec Cert.Pre_finite.S15000x64 1 :=
  cmpf .olt (Host.absf x) (broadcastInDim Cert.Pre_finite.S15000x64 ![] Cert.Pre_finite.Facts.bcast_S_S15000x64 (constant Cert.Pre_finite.S_ .f32 0x7F800000#32))

/-- A table whose finite bits are all one holds its real parts. -/
theorem holds_of_finite (x : Vec Ideal Cert.Pre_finite.S15000x64 .f32) (h : finiteBits (F := Ideal) x = fun _ => 1#1) :
    Holds (fun i k => (x (ix2 i k)).toReal) x := by
  intro i k
  have e := congrFun h (ix2 i k)
  unfold finiteBits at e
  pointwise at e
  refine (real_of_abs_lt _ ?_).symm
  rw [← infinity_word]
  exact e

/-! ### Tables without ties -/

section Ties
open Cert.On_without_ties Cert.On_without_ties.Facts

/-- The bits "not as far as the positive, or not before it". -/
def apartBits {F : FTy → Type} [FloatOps F] (x : FVec F S15000x64 .f32) : IVec S5000x15000 1 :=
  noti (andi
    (cmpf .oeq (val_main_v19 x)
      (broadcastInDim S5000x15000 ![0, 1] bcast_S5000x1_S5000x15000_0_1 (broadcastInDim S5000x1 ![0] bcast_S5000_S5000x1_0
        (Host.gather Cert.ReferenceIdeal.gather_S5000x15000_S5000x2_S5000_n_01_n_n_01_1_11 (val_main_v19 x) (val_main_v39 (F := F))))))
    (cmpi .slt
      (broadcastInDim S5000x15000 ![0, 1] bcast_S1x15000_S5000x15000_0_1 (broadcastInDim S1x15000 ![1] bcast_S15000_S1x15000_1 (iotaInDim S15000 32 0)))
      (broadcastInDim S5000x15000 ![0, 1] bcast_S5000x1_S5000x15000_0_1 (broadcastInDim S5000x1 ![0] bcast_S5000_S5000x1_0 (val_main_v26 (F := F))))))

/-- The bit "untied" of each query. -/
def untiedBits {F : FTy → Type} [FloatOps F] (x : FVec F S15000x64 .f32) : IVec S5000 1 :=
  Host.reduce IntOp.andi (apartBits x) (constantI S_ 1 1#1) reducesTo_S5000x15000_S5000_d1 h_S_

/-- The bit "every query is untied". -/
def allUntied {F : FTy → Type} [FloatOps F] (x : FVec F S15000x64 .f32) : IVec S_ 1 :=
  Host.reduce IntOp.andi (untiedBits x) (constantI S_ 1 1#1) reducesTo_S5000_S_d0 h_S_

/-- A row tied with the positive of its query and before it has the bit zero. -/
theorem apart_tied (x : Vec Ideal S15000x64 .f32) (i : Fin 5000) (j : Fin 15000) (hj : j < positive i)
    (e : rowDist x i j = rowDist x i (positive i)) : apartBits (F := Ideal) x (ix2 i j) = 0#1 := by
  pointwise [apartBits]
  have hp : val_main_v26 (F := Ideal) (ix1 i) = BitVec.ofNat 32 (positive i).val := by
    pointwise [val_main_v26, val_main_v25, val_main_v24, val_main_v23, val_main_v22, val_main_c, val_main_c_4]
    have hi := i.isLt
    show _ = BitVec.ofNat 32 (3 * i.val + 1)
    rw [← BitVec.toNat_inj]
    simp only [IntOp.addi, IntOp.muli, BitVec.toNat_add, BitVec.toNat_mul, BitVec.toNat_ofNat]
    omega
  have hlt : IntOp.cmpi .slt (BitVec.ofNat 32 j.val) (BitVec.ofNat 32 (positive i).val) = 1#1 := by
    have h1 := j.isLt
    have h2 := (positive i).isLt
    have h3 : j.val < (positive i).val := hj
    simp only [IntOp.cmpi, BitVec.slt, StableHlo.Predicate.toInt_ofNat_small _ (show j.val < 2 ^ 31 by omega),
      StableHlo.Predicate.toInt_ofNat_small _ (show (positive i).val < 2 ^ 31 by omega)]
    simp [h3]
  rw [gather_positive, hp, hlt, decide_eq_true (show val_main_v19 x (ix2 i j) = val_main_v19 x (ix2 i (positive i)) from e)]
  decide

/-- A query whose bit is one is untied. -/
theorem untied_of_bit (x : Vec Ideal S15000x64 .f32) (i : Fin 5000) (h : untiedBits (F := Ideal) x (ix1 i) = 1#1) : Untied x i := by
  intro j hj e
  unfold untiedBits at h
  pointwise at h
  have hb := (fold_and _ _).mp h j (Finset.mem_univ _)
  rw [apart_tied x i j hj e] at hb
  exact absurd hb (by decide)

/-- When the last bit is one every query's bit is one. -/
theorem bits_of_all (x : Vec Ideal S15000x64 .f32) (j : S_.Idx) (h : allUntied (F := Ideal) x j = 1#1) (i : Fin 5000) : untiedBits (F := Ideal) x (ix1 i) = 1#1 := by
  unfold allUntied at h
  pointwise at h
  exact (fold_and _ _).mp h i (Finset.mem_univ _)

end Ties

/-! ### The printed predicates -/

/-- The first component of a pair known to be `(a, b)`. -/
theorem fst_of {α β : Type} {p : α × β} {a : α} {b : β} (h : p = (a, b)) : p.1 = a := by rw [h]

/-- The second component of a pair known to be `(a, b)`. -/
theorem snd_of {α β : Type} {p : α × β} {a : α} {b : β} (h : p = (a, b)) : p.2 = b := by rw [h]

section Printed
variable {F : FTy → Type} [FloatOps F] (a0 a2 : FVec F ⟨1, ![1]⟩ .f32) (x : FVec F ⟨2, ![15000, 64]⟩ .f32)

/-- The first predicate is the finite bits. -/
theorem finite_fn : Cert.Pre_finite.fn a0 x a2 = finiteBits x := rfl

/-- The second predicate is the finite bits and the untied bits. -/
theorem finite_untied_fn : Cert.Pre_finite_untied.fn a0 x a2 = (finiteBits x, untiedBits x) := rfl

/-- The mask on the ranks is the untied bits; on their mean it is the conjunction of these. -/
theorem without_ties_fn : (Cert.On_without_ties.fn a0 x a2).2 = (untiedBits x, allUntied x) := rfl

end Printed

/-! ### What they give -/

section Given
variable (a0 a2 : FVec Ideal ⟨1, ![1]⟩ .f32) (x : FVec Ideal ⟨2, ![15000, 64]⟩ .f32)

/-- A table that meets the first precondition holds real numbers. -/
theorem holds_of_pre (h : Cert.Pre_finite.fn (F := Ideal) a0 x a2 = fun _ => 1#1) : Holds (fun i k => (x (ix2 i k)).toReal) x :=
  holds_of_finite x ((finite_fn a0 a2 x).symm.trans h)

/-- A table that meets the second precondition holds real numbers. -/
theorem holds_of_pre_untied (h : (Cert.Pre_finite_untied.fn (F := Ideal) a0 x a2).1 = fun _ => 1#1) :
    Holds (fun i k => (x (ix2 i k)).toReal) x := by
  rw [fst_of (finite_untied_fn a0 a2 x)] at h
  exact holds_of_finite x h

/-- Every query of a table that meets the second precondition is untied. -/
theorem untied_of_pre (h : (Cert.Pre_finite_untied.fn (F := Ideal) a0 x a2).2 = fun _ => 1#1) (i : Fin 5000) : Untied x i := by
  rw [snd_of (finite_untied_fn a0 a2 x)] at h
  exact untied_of_bit x i (congrFun h (ix1 i))

/-- A query whose bit of the mask is one is untied. -/
theorem untied_of_mask (i : Fin 5000) (h : (Cert.On_without_ties.fn (F := Ideal) a0 x a2).2.1 (ix1 i) = 1#1) : Untied x i := by
  rw [fst_of (without_ties_fn a0 a2 x)] at h
  exact untied_of_bit x i h

/-- When the mask's last bit is one every query is untied. -/
theorem untied_of_mask_all (j : (⟨0, ![]⟩ : Shape).Idx) (h : (Cert.On_without_ties.fn (F := Ideal) a0 x a2).2.2 j = 1#1) (i : Fin 5000) : Untied x i := by
  rw [snd_of (without_ties_fn a0 a2 x)] at h
  exact untied_of_bit x i (bits_of_all x j h i)

end Given

end Cert.Predicates

end
-- ==== Proof.lean ====
/-
  The certificate's theorem. The three programs run, leave their arguments and return every semaphore to zero; the idealised
  kernel is the kernel; and on tables of finite entries the kernel's three results are the reference's: whole when no
  query's positive is tied with an earlier row, and otherwise wherever the mask of ties allows.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import proofs.«01_k».proof.Proof.Predicates
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.ReferenceIdeal.Read (val_main_v19 val_main_v42 val_main_v45)
open Cert.KernelIdeal.Arrays (table)

/-- The reference's run: its three results are functions of the table, and its arguments are unchanged. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v19) = val_main_v19 (F := Ideal) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v42) = val_main_v42 (F := Ideal) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v45) = val_main_v45 (F := Ideal) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  (θ_run _ _ _).mono (fun _ h c => ⟨(h c).1.trans (Cert.ReferenceIdeal.Read.val_main_v19_eq _), (h c).2.1.trans (Cert.ReferenceIdeal.Read.val_main_v42_eq _),
    (h c).2.2.1.trans (Cert.ReferenceIdeal.Read.val_main_v45_eq _), (h c).2.2.2⟩) (Cert.ReferenceIdeal.Value.run m ρ)

/-- The reference runs, keeps its arguments and returns every semaphore to zero. -/
theorem reference_frame : Cert.quiescent_ReferenceIdeal := fun m ρ _ =>
  (θ_run _ _ _).mono (fun r h => ⟨fun c => (h c).2.2.2, Idealize.ShloMosaic.sem_eq_zero_of_no_sems (by decide) r.2⟩) (reference_run m ρ)

/-- On a finite table without ties the three results agree. -/
theorem results_untied : Cert.algebraic_KernelIdeal_ReferenceIdeal_pre_finite_untied := by
  intro m g m' g' hpre hargs
  have hx : ∀ c, Cert.Distance.Holds _ (table m c) := fun c =>
    Cert.Predicates.holds_of_pre_untied _ _ _ (hpre c).1
  have hu : ∀ c i, Cert.ReferenceIdeal.Rank.Untied (table m c) i := fun c i =>
    Cert.Predicates.untied_of_pre _ _ _ (hpre c).2 i
  refine ⟨fun c => val_main_v19 (F := Ideal) (table m c), fun c => val_main_v42 (F := Ideal) (table m c), fun c => val_main_v45 (F := Ideal) (table m c), ?_, ?_⟩
  · refine (θ_run _ _ _).mono (fun r h c => ?_) (Cert.KernelIdeal.Arrays.run m g)
    refine ⟨(h c).1.trans (Cert.Equation.dists_eq _ _ (hx c)), (h c).2.1.trans ?_, (h c).2.2.1.trans (Cert.Equation.mean_eq _ _ (hx c) (hu c)), (h c).2.2.2⟩
    funext i
    rw [eq_ix1 (n0 := 5000) i]
    exact Cert.Equation.rank_eq _ _ (hx c) (i 0) (hu c (i 0))
  · refine (θ_run _ _ _).mono (fun r h c => ?_) (reference_run m' g')
    have e := (hargs c).2.1
    refine ⟨(h c).1.trans (congrArg _ e), (h c).2.1.trans (congrArg _ e), (h c).2.2.1.trans (congrArg _ e), (h c).2.2.2⟩

/-- On a finite table the distances agree, the ranks of untied queries agree, and the mean rank agrees when every query is untied. -/
theorem results_masked : Cert.algebraic_KernelIdeal_ReferenceIdeal_on_without_ties_pre_finite := by
  intro m g m' g' hpre hargs
  have hx : ∀ c, Cert.Distance.Holds _ (table m c) := fun c =>
    Cert.Predicates.holds_of_pre _ _ _ (hpre c)
  refine ⟨fun c => val_main_v19 (F := Ideal) (table m c), fun c => val_main_v42 (F := Ideal) (table m c), fun c => val_main_v45 (F := Ideal) (table m c), ?_, ?_⟩
  · refine (θ_run _ _ _).mono (fun r h c => ?_) (Cert.KernelIdeal.Arrays.run m g)
    refine ⟨fun i _ => congrFun ((h c).1.trans (Cert.Equation.dists_eq _ _ (hx c))) i, fun i hi => (congrFun (h c).2.1 i).trans ?_,
      fun i hi => (congrFun (h c).2.2.1 i).trans ?_, (h c).2.2.2⟩
    · rw [eq_ix1 (n0 := 5000) i] at hi ⊢
      exact Cert.Equation.rank_eq _ _ (hx c) (i 0) (Cert.Predicates.untied_of_mask _ _ _ (i 0) hi)
    · exact congrFun (Cert.Equation.mean_eq _ _ (hx c) (Cert.Predicates.untied_of_mask_all _ _ _ i hi)) i
  · refine (θ_run _ _ _).mono (fun r h c => ?_) (reference_run m' g')
    have e := (hargs c).2.1
    exact ⟨fun i _ => congrFun ((h c).1.trans (congrArg _ e)) i, fun i _ => congrFun ((h c).2.1.trans (congrArg _ e)) i,
      fun i _ => congrFun ((h c).2.2.1.trans (congrArg _ e)) i, (h c).2.2.2⟩

/-- Every claim of the certificate. -/
theorem claim : Cert.Claim :=
  ⟨Cert.Kernel.Gen.facts, Cert.KernelIdeal.Gen.facts, Cert.ReferenceIdeal.Gen.facts, finite_untied_facts, finite_facts, without_ties_facts,
    fun m ρ _ => Cert.Kernel.Gen.frame m ρ, fun m ρ _ => Cert.KernelIdeal.Gen.frame m ρ, fun m ρ _ => Cert.KernelIdeal.Gen.frame m ρ,
    fun m ρ _ => Cert.KernelIdeal.Gen.frame m ρ, reference_frame, fun m ρ _ => reference_frame m ρ trivial, fun m ρ _ => reference_frame m ρ trivial,
    trivial, results_untied, results_masked⟩

end Cert.Proof

end
